-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_set_up [hPre_as_set_up : Cert.Pre_as_set_up.Facts] (m : (ℓ : Loc Cert.KernelIdeal.nD Cert.KernelIdeal.τ Cert.KernelIdeal.sig) → Buf (Elt Ideal) ℓ) : Prop :=
  ∀ c : Dev Cert.KernelIdeal.nD,
    (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.1 = (fun _ => 1#1)
    ∧ (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_set_up [hPre_as_set_up : Cert.Pre_as_set_up.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.1 = (fun _ => 1#1)
    ∧ (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_as_set_up [hKernelIdeal : Cert.KernelIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_set_up m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_as_set_up [hReferenceIdeal : Cert.ReferenceIdeal.Facts] [hPre_as_set_up : Cert.Pre_as_set_up.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_set_up m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_as_set_up [hKernelIdeal : Cert.KernelIdeal.Facts] [hReferenceIdeal : Cert.ReferenceIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_set_up m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_cst_21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_as_set_up : Cert.Pre_as_set_up.Facts),
    quiescent_Kernel (hKernel := hKernel)
    ∧ quiescent_KernelIdeal (hKernelIdeal := hKernelIdeal)
    ∧ quiescent_KernelIdeal_pre_as_set_up (hKernelIdeal := hKernelIdeal) (hPre_as_set_up := hPre_as_set_up)
    ∧ quiescent_ReferenceIdeal (hReferenceIdeal := hReferenceIdeal)
    ∧ quiescent_ReferenceIdeal_pre_as_set_up (hReferenceIdeal := hReferenceIdeal) (hPre_as_set_up := hPre_as_set_up)
    ∧ preserves_Kernel_KernelIdeal
    ∧ algebraic_KernelIdeal_ReferenceIdeal_pre_as_set_up (hKernelIdeal := hKernelIdeal) (hReferenceIdeal := hReferenceIdeal) (hPre_as_set_up := hPre_as_set_up)
-- ==== Pre_as_set_up.lean ====
abbrev S16384x128 : Shape := ⟨2, ![16384, 128]⟩
abbrev S128x256 : Shape := ⟨2, ![128, 256]⟩
abbrev S128 : Shape := ⟨1, ![128]⟩
abbrev S3x128 : Shape := ⟨2, ![3, 128]⟩
abbrev S3 : Shape := ⟨1, ![3]⟩
abbrev S384x128 : Shape := ⟨2, ![384, 128]⟩
abbrev S384 : Shape := ⟨1, ![384]⟩
abbrev S128x128 : Shape := ⟨2, ![128, 128]⟩
abbrev S512x128 : Shape := ⟨2, ![512, 128]⟩
abbrev S512 : Shape := ⟨1, ![512]⟩
abbrev S128x512 : Shape := ⟨2, ![128, 512]⟩
abbrev S_ : Shape := ⟨0, ![]⟩

class Facts : Prop where
  bcast_S_S16384x128 : S_.BroadcastsInDim S16384x128 (![] : Fin 0 → Fin S16384x128.rank)
  bcast_S_S384x128 : S_.BroadcastsInDim S384x128 (![] : Fin 0 → Fin S384x128.rank)
  bcast_S_S128x128 : S_.BroadcastsInDim S128x128 (![] : Fin 0 → Fin S128x128.rank)
  bcast_S_S128 : S_.BroadcastsInDim S128 (![] : Fin 0 → Fin S128.rank)
  bcast_S_S3 : S_.BroadcastsInDim S3 (![] : Fin 0 → Fin S3.rank)
  bcast_S_S384 : S_.BroadcastsInDim S384 (![] : Fin 0 → Fin S384.rank)
  bcast_S_S512 : S_.BroadcastsInDim S512 (![] : Fin 0 → Fin S512.rank)

variable [Facts]

def fn_part1 {F : FTy → Type} [FloatOps F] (main_arg7 : FVec F S128 .f32) (main_arg9 : FVec F S384 .f32) (main_arg11 : FVec F S128 .f32) (main_arg12 : FVec F S128 .f32) (main_arg13 : FVec F S128 .f32) (main_arg15 : FVec F S512 .f32) (main_arg17 : FVec F S128 .f32) (main_v2 : IVec S16384x128 1) (main_v5 : IVec S16384x128 1) (main_v8 : IVec S384x128 1) (main_v11 : IVec S128x128 1) (main_v13 : IVec S128 1) (main_v15 : IVec S3 1) (main_v16 : FVec F S128 .f32) : IVec S16384x128 1 × IVec S16384x128 1 × IVec S384x128 1 × IVec S128x128 1 × IVec S128 1 × IVec S3 1 × IVec S128 1 × IVec S384 1 × IVec S128 1 × IVec S128 1 × IVec S128 1 × IVec S512 1 × IVec S128 1 :=
  let main_v17 : IVec S128 1 := cmpf .oeq main_arg7 main_v16
  let main_cst_6 : FVec F S_ .f32 := constant S_ .f32 0x00000000#32
  let main_v18 : FVec F S384 .f32 := broadcastInDim S384 ![] bcast_S_S384 main_cst_6
  let main_v19 : IVec S384 1 := cmpf .oeq main_arg9 main_v18
  let main_cst_7 : FVec F S_ .f32 := constant S_ .f32 0x00000000#32
  let main_v20 : FVec F S128 .f32 := broadcastInDim S128 ![] bcast_S_S128 main_cst_7
  let main_v21 : IVec S128 1 := cmpf .oeq main_arg11 main_v20
  let main_cst_8 : FVec F S_ .f32 := constant S_ .f32 0x3F800000#32
  let main_v22 : FVec F S128 .f32 := broadcastInDim S128 ![] bcast_S_S128 main_cst_8
  let main_v23 : IVec S128 1 := cmpf .oeq main_arg12 main_v22
  let main_cst_9 : FVec F S_ .f32 := constant S_ .f32 0x00000000#32
  let main_v24 : FVec F S128 .f32 := broadcastInDim S128 ![] bcast_S_S128 main_cst_9
  let main_v25 : IVec S128 1 := cmpf .oeq main_arg13 main_v24
  let main_cst_10 : FVec F S_ .f32 := constant S_ .f32 0x00000000#32
  let main_v26 : FVec F S512 .f32 := broadcastInDim S512 ![] bcast_S_S512 main_cst_10
  let main_v27 : IVec S512 1 := cmpf .oeq main_arg15 main_v26
  let main_cst_11 : FVec F S_ .f32 := constant S_ .f32 0x00000000#32
  let main_v28 : FVec F S128 .f32 := broadcastInDim S128 ![] bcast_S_S128 main_cst_11
  let main_v29 : IVec S128 1 := cmpf .oeq main_arg17 main_v28
  (main_v2, main_v5, main_v8, main_v11, main_v13, main_v15, main_v17, main_v19, main_v21, main_v23, main_v25, main_v27, main_v29)

def fn {F : FTy → Type} [FloatOps F] (main_arg0 : FVec F S16384x128 .f32) (main_arg1 : FVec F S16384x128 .f32) (main_arg2 : FVec F S128x256 .f32) (main_arg3 : FVec F S128 .f32) (main_arg4 : FVec F S3x128 .f32) (main_arg5 : FVec F S3 .f32) (main_arg6 : FVec F S128x256 .f32) (main_arg7 : FVec F S128 .f32) (main_arg8 : FVec F S384x128 .f32) (main_arg9 : FVec F S384 .f32) (main_arg10 : FVec F S128x128 .f32) (main_arg11 : FVec F S128 .f32) (main_arg12 : FVec F S128 .f32) (main_arg13 : FVec F S128 .f32) (main_arg14 : FVec F S512x128 .f32) (main_arg15 : FVec F S512 .f32) (main_arg16 : FVec F S128x512 .f32) (main_arg17 : FVec F S128 .f32) : IVec S16384x128 1 × IVec S16384x128 1 × IVec S384x128 1 × IVec S128x128 1 × IVec S128 1 × IVec S3 1 × IVec S128 1 × IVec S384 1 × IVec S128 1 × IVec S128 1 × IVec S128 1 × IVec S512 1 × IVec S128 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_v3 : FVec F S16384x128 .f32 := Host.absf main_arg1
  let main_cst_0 : FVec F S_ .f32 := constant S_ .f32 0x7F800000#32
  let main_v4 : FVec F S16384x128 .f32 := broadcastInDim S16384x128 ![] bcast_S_S16384x128 main_cst_0
  let main_v5 : IVec S16384x128 1 := cmpf .olt main_v3 main_v4
  let main_v6 : FVec F S384x128 .f32 := Host.absf main_arg8
  let main_cst_1 : FVec F S_ .f32 := constant S_ .f32 0x7F800000#32
  let main_v7 : FVec F S384x128 .f32 := broadcastInDim S384x128 ![] bcast_S_S384x128 main_cst_1
  let main_v8 : IVec S384x128 1 := cmpf .olt main_v6 main_v7
  let main_v9 : FVec F S128x128 .f32 := Host.absf main_arg10
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_cst_3 : FVec F S_ .f32 := constant S_ .f32 0x00000000#32
  let main_v12 : FVec F S128 .f32 := broadcastInDim S128 ![] bcast_S_S128 main_cst_3
  let main_v13 : IVec S128 1 := cmpf .oeq main_arg3 main_v12
  let main_cst_4 : FVec F S_ .f32 := constant S_ .f32 0x00000000#32
  let main_v14 : FVec F S3 .f32 := broadcastInDim S3 ![] bcast_S_S3 main_cst_4
  let main_v15 : IVec S3 1 := cmpf .oeq main_arg5 main_v14
  let main_cst_5 : FVec F S_ .f32 := constant S_ .f32 0x00000000#32
  let main_v16 : FVec F S128 .f32 := broadcastInDim S128 ![] bcast_S_S128 main_cst_5
  fn_part1 (F := F) main_arg7 main_arg9 main_arg11 main_arg12 main_arg13 main_arg15 main_arg17 main_v2 main_v5 main_v8 main_v11 main_v13 main_v15 main_v16
-- ==== Kernel.lean ====
abbrev S16384x128 : Shape := ⟨2, ![16384, 128]⟩
abbrev S128x256 : Shape := ⟨2, ![128, 256]⟩
abbrev S128 : Shape := ⟨1, ![128]⟩
abbrev S3x128 : Shape := ⟨2, ![3, 128]⟩
abbrev S3 : Shape := ⟨1, ![3]⟩
abbrev S384x128 : Shape := ⟨2, ![384, 128]⟩
abbrev S384 : Shape := ⟨1, ![384]⟩
abbrev S128x128 : Shape := ⟨2, ![128, 128]⟩
abbrev S512x128 : Shape := ⟨2, ![512, 128]⟩
abbrev S512 : Shape := ⟨1, ![512]⟩
abbrev S128x512 : Shape := ⟨2, ![128, 512]⟩
abbrev S16384x8 : Shape := ⟨2, ![16384, 8]⟩
abbrev S128x8 : Shape := ⟨2, ![128, 8]⟩
abbrev S8x128 : Shape := ⟨2, ![8, 128]⟩
abbrev S_ : Shape := ⟨0, ![]⟩
abbrev S4096x128 : Shape := ⟨2, ![4096, 128]⟩
abbrev S4096x8 : Shape := ⟨2, ![4096, 8]⟩
abbrev S4096x256 : Shape := ⟨2, ![4096, 256]⟩
abbrev S5x128 : Shape := ⟨2, ![5, 128]⟩
abbrev S4096x1 : Shape := ⟨2, ![4096, 1]⟩
abbrev S4096 : Shape := ⟨1, ![4096]⟩
abbrev S4096x512 : Shape := ⟨2, ![4096, 512]⟩

abbrev nBuf : Space → Nat
  | .hbm => 23
  | .vmem => 17
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S128x256, .f32⟩
  | .hbm, ⟨3, _⟩ => ⟨S128, .f32⟩
  | .hbm, ⟨4, _⟩ => ⟨S3x128, .f32⟩
  | .hbm, ⟨5, _⟩ => ⟨S3, .f32⟩
  | .hbm, ⟨6, _⟩ => ⟨S128x256, .f32⟩
  | .hbm, ⟨7, _⟩ => ⟨S128, .f32⟩
  | .hbm, ⟨8, _⟩ => ⟨S384x128, .f32⟩
  | .hbm, ⟨9, _⟩ => ⟨S384, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S512x128, .f32⟩
  | .hbm, ⟨15, _⟩ => ⟨S512, .f32⟩
  | .hbm, ⟨16, _⟩ => ⟨S128x512, .f32⟩
  | .hbm, ⟨17, _⟩ => ⟨S128, .f32⟩
  | .hbm, ⟨18, _⟩ => ⟨S16384x8, .f32⟩
  | .hbm, ⟨19, _⟩ => ⟨S128x8, .f32⟩
  | .hbm, ⟨20, _⟩ => ⟨S8x128, .f32⟩
  | .hbm, ⟨21, _⟩ => ⟨S16384x128, .f32⟩
  | .hbm, ⟨22, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x8, .f32⟩
  | .local _ .vmem, ⟨5, _⟩ => ⟨S4096x8, .f32⟩
  | .local _ .vmem, ⟨6, _⟩ => ⟨S128x256, .f32⟩
  | .local _ .vmem, ⟨7, _⟩ => ⟨S3x128, .f32⟩
  | .local _ .vmem, ⟨8, _⟩ => ⟨S128x256, .f32⟩
  | .local _ .vmem, ⟨9, _⟩ => ⟨S384x128, .f32⟩
  | .local _ .vmem, ⟨10, _⟩ => ⟨S128x128, .f32⟩
  | .local _ .vmem, ⟨11, _⟩ => ⟨S512x128, .f32⟩
  | .local _ .vmem, ⟨12, _⟩ => ⟨S128x512, .f32⟩
  | .local _ .vmem, ⟨13, _⟩ => ⟨S128x8, .f32⟩
  | .local _ .vmem, ⟨14, _⟩ => ⟨S8x128, .f32⟩
  | .local _ .vmem, ⟨15, _⟩ => ⟨S4096x128, .f32⟩
  | .local _ .vmem, ⟨16, _⟩ => ⟨S4096x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_cst : Ref sig .tc := ⟨.hbm, 18, rfl⟩
abbrev main_call0_cst_0 : Ref sig .tc := ⟨.hbm, 19, rfl⟩
abbrev main_call0_cst_1 : Ref sig .tc := ⟨.hbm, 20, rfl⟩
abbrev main_v0_0 : Ref sig .tc := ⟨.hbm, 21, rfl⟩
abbrev main_v0_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S16384x128 : Shape := ⟨2, ![16384, 128]⟩
abbrev S128x256 : Shape := ⟨2, ![128, 256]⟩
abbrev S128 : Shape := ⟨1, ![128]⟩
abbrev S3x128 : Shape := ⟨2, ![3, 128]⟩
abbrev S3 : Shape := ⟨1, ![3]⟩
abbrev S384x128 : Shape := ⟨2, ![384, 128]⟩
abbrev S384 : Shape := ⟨1, ![384]⟩
abbrev S128x128 : Shape := ⟨2, ![128, 128]⟩
abbrev S512x128 : Shape := ⟨2, ![512, 128]⟩
abbrev S512 : Shape := ⟨1, ![512]⟩
abbrev S128x512 : Shape := ⟨2, ![128, 512]⟩
abbrev S16384x3 : Shape := ⟨2, ![16384, 3]⟩
abbrev S16384x256 : Shape := ⟨2, ![16384, 256]⟩
abbrev S256x128 : Shape := ⟨2, ![256, 128]⟩
abbrev S1x128 : Shape := ⟨2, ![1, 128]⟩
abbrev S_ : Shape := ⟨0, ![]⟩
abbrev S128x3 : Shape := ⟨2, ![128, 3]⟩
abbrev S1x3 : Shape := ⟨2, ![1, 3]⟩
abbrev S16384 : Shape := ⟨1, ![16384]⟩
abbrev S16384x1 : Shape := ⟨2, ![16384, 1]⟩
abbrev S16384x1x128 : Shape := ⟨3, ![16384, 1, 128]⟩
abbrev S16384x2x128 : Shape := ⟨3, ![16384, 2, 128]⟩
abbrev S128x384 : Shape := ⟨2, ![128, 384]⟩
abbrev S16384x2x384 : Shape := ⟨3, ![16384, 2, 384]⟩
abbrev S1x1x384 : Shape := ⟨3, ![1, 1, 384]⟩
abbrev S16384x2x8x16 : Shape := ⟨4, ![16384, 2, 8, 16]⟩
abbrev S16384x8x2x16 : Shape := ⟨4, ![16384, 8, 2, 16]⟩
abbrev S16384x8x16x2 : Shape := ⟨4, ![16384, 8, 16, 2]⟩
abbrev S16384x8x2x2 : Shape := ⟨4, ![16384, 8, 2, 2]⟩
abbrev S16384x8x2 : Shape := ⟨3, ![16384, 8, 2]⟩
abbrev S16384x8x2x1 : Shape := ⟨4, ![16384, 8, 2, 1]⟩
abbrev S1x1x128 : Shape := ⟨3, ![1, 1, 128]⟩
abbrev S16384x512 : Shape := ⟨2, ![16384, 512]⟩
abbrev S1x512 : Shape := ⟨2, ![1, 512]⟩

abbrev nBuf : Space → Nat
  | .hbm => 198
  | .vmem => 0
  | .smem => 0
  | _ => 0

abbrev hbmTy0_0 (i : Nat) : BufTy := match i % 128 with
  | 0 => ⟨S16384x128, .f32⟩
  | 1 => ⟨S16384x128, .f32⟩
  | 2 => ⟨S128x256, .f32⟩
  | 3 => ⟨S128, .f32⟩
  | 4 => ⟨S3x128, .f32⟩
  | 5 => ⟨S3, .f32⟩
  | 6 => ⟨S128x256, .f32⟩
  | 7 => ⟨S128, .f32⟩
  | 8 => ⟨S384x128, .f32⟩
  | 9 => ⟨S384, .f32⟩
  | 10 => ⟨S128x128, .f32⟩
  | 11 => ⟨S128, .f32⟩
  | 12 => ⟨S128, .f32⟩
  | 13 => ⟨S128, .f32⟩
  | 14 => ⟨S512x128, .f32⟩
  | 15 => ⟨S512, .f32⟩
  | 16 => ⟨S128x512, .f32⟩
  | 17 => ⟨S128, .f32⟩
  | 18 => ⟨S16384x3, .f32⟩
  | 19 => ⟨S16384x256, .f32⟩
  | 20 => ⟨S256x128, .f32⟩
  | 21 => ⟨S16384x128, .f32⟩
  | 22 => ⟨S1x128, .f32⟩
  | 23 => ⟨S16384x128, .f32⟩
  | 24 => ⟨S16384x128, .f32⟩
  | 25 => ⟨S_, .f32⟩
  | 26 => ⟨S16384x128, .f32⟩
  | 27 => ⟨S16384x128, .f32⟩
  | 28 => ⟨S16384x128, .f32⟩
  | 29 => ⟨S_, .f32⟩
  | 30 => ⟨S16384x128, .f32⟩
  | 31 => ⟨S16384x128, .f32⟩
  | 32 => ⟨S16384x128, .f32⟩
  | 33 => ⟨S16384x128, .f32⟩
  | 34 => ⟨S128x3, .f32⟩
  | 35 => ⟨S16384x3, .f32⟩
  | 36 => ⟨S1x3, .f32⟩
  | 37 => ⟨S16384x3, .f32⟩
  | 38 => ⟨S16384x3, .f32⟩
  | 39 => ⟨S16384x3, .f32⟩
  | 40 => ⟨S_, .f32⟩
  | 41 => ⟨S16384, .f32⟩
  | 42 => ⟨S16384x1, .f32⟩
  | 43 => ⟨S16384x3, .f32⟩
  | 44 => ⟨S16384x3, .i1⟩
  | 45 => ⟨S3, .i32⟩
  | 46 => ⟨S_, .i32⟩
  | 47 => ⟨S_, .i32⟩
  | 48 => ⟨S16384x3, .i32⟩
  | 49 => ⟨S16384x3, .i32⟩
  | 50 => ⟨S16384x3, .i32⟩
  | 51 => ⟨S_, .i32⟩
  | 52 => ⟨S16384, .i32⟩
  | 53 => ⟨S256x128, .f32⟩
  | 54 => ⟨S16384x128, .f32⟩
  | 55 => ⟨S1x128, .f32⟩
  | 56 => ⟨S16384x128, .f32⟩
  | 57 => ⟨S16384x128, .f32⟩
  | 58 => ⟨S16384x128, .f32⟩
  | 59 => ⟨S16384x128, .f32⟩
  | 60 => ⟨S_, .f32⟩
  | 61 => ⟨S16384x128, .f32⟩
  | 62 => ⟨S16384x128, .f32⟩
  | 63 => ⟨S_, .f32⟩
  | 64 => ⟨S16384x128, .f32⟩
  | 65 => ⟨S16384x128, .f32⟩
  | 66 => ⟨S16384x128, .f32⟩
  | 67 => ⟨S_, .f32⟩
  | 68 => ⟨S16384x128, .f32⟩
  | 69 => ⟨S16384x128, .f32⟩
  | 70 => ⟨S16384x128, .f32⟩
  | 71 => ⟨S16384x128, .f32⟩
  | 72 => ⟨S16384x1x128, .f32⟩
  | 73 => ⟨S16384x1x128, .f32⟩
  | 74 => ⟨S16384x2x128, .f32⟩
  | 75 => ⟨S128x384, .f32⟩
  | 76 => ⟨S16384x2x384, .f32⟩
  | 77 => ⟨S1x1x384, .f32⟩
  | 78 => ⟨S16384x2x384, .f32⟩
  | 79 => ⟨S16384x2x384, .f32⟩
  | 80 => ⟨S16384x2x128, .f32⟩
  | 81 => ⟨S16384x2x128, .f32⟩
  | 82 => ⟨S16384x2x128, .f32⟩
  | 83 => ⟨S16384x2x8x16, .f32⟩
  | 84 => ⟨S16384x8x2x16, .f32⟩
  | 85 => ⟨S16384x2x8x16, .f32⟩
  | 86 => ⟨S16384x8x2x16, .f32⟩
  | 87 => ⟨S16384x2x8x16, .f32⟩
  | 88 => ⟨S16384x8x2x16, .f32⟩
  | 89 => ⟨S16384x8x16x2, .f32⟩
  | 90 => ⟨S16384x8x2x2, .f32⟩
  | 91 => ⟨S_, .f32⟩
  | 92 => ⟨S_, .f32⟩
  | 93 => ⟨S16384x8x2x2, .f32⟩
  | 94 => ⟨S16384x8x2x2, .f32⟩
  | 95 => ⟨S_, .f32⟩
  | 96 => ⟨S16384x8x2, .f32⟩
  | 97 => ⟨S_, .f32⟩
  | 98 => ⟨S16384x8x2, .f32⟩
  | 99 => ⟨S16384x8x2, .f32⟩
  | 100 => ⟨S16384x8x2x1, .f32⟩
  | 101 => ⟨S16384x8x2x2, .f32⟩
  | 102 => ⟨S16384x8x2x2, .f32⟩
  | 103 => ⟨S16384x8x2x2, .f32⟩
  | 104 => ⟨S_, .f32⟩
  | 105 => ⟨S16384x8x2, .f32⟩
  | 106 => ⟨S16384x8x2x1, .f32⟩
  | 107 => ⟨S16384x8x2x2, .f32⟩
  | 108 => ⟨S16384x8x2x2, .f32⟩
  | 109 => ⟨S16384x8x2x16, .f32⟩
  | 110 => ⟨S16384x2x8x16, .f32⟩
  | 111 => ⟨S16384x2x128, .f32⟩
  | 112 => ⟨S128x128, .f32⟩
  | 113 => ⟨S16384x2x128, .f32⟩
  | 114 => ⟨S1x1x128, .f32⟩
  | 115 => ⟨S16384x2x128, .f32⟩
  | 116 => ⟨S16384x2x128, .f32⟩
  | 117 => ⟨S_, .f32⟩
  | 118 => ⟨S16384x128, .f32⟩
  | 119 => ⟨S_, .f32⟩
  | 120 => ⟨S16384x128, .f32⟩
  | 121 => ⟨S16384x128, .f32⟩
  | 122 => ⟨S16384x128, .f32⟩
  | 123 => ⟨S_, .f32⟩
  | 124 => ⟨S16384, .f32⟩
  | 125 => ⟨S16384x1, .f32⟩
  | 126 => ⟨S_, .f32⟩
  | 127 => ⟨S16384x1, .f32⟩
  | _ => ⟨S16384x128, .f32⟩

abbrev hbmTy0_1 (i : Nat) : BufTy := match i % 128 with
  | 0 => ⟨S16384x1, .f32⟩
  | 1 => ⟨S_, .i32⟩
  | 2 => ⟨S_, .f32⟩
  | 3 => ⟨S16384, .f32⟩
  | 4 => ⟨S16384x1, .f32⟩
  | 5 => ⟨S_, .f32⟩
  | 6 => ⟨S16384x1, .f32⟩
  | 7 => ⟨S16384x1, .f32⟩
  | 8 => ⟨S16384x128, .f32⟩
  | 9 => ⟨S16384x128, .f32⟩
  | 10 => ⟨S16384x128, .f32⟩
  | 11 => ⟨S_, .f32⟩
  | 12 => ⟨S_, .f32⟩
  | 13 => ⟨S_, .f32⟩
  | 14 => ⟨S_, .f32⟩
  | 15 => ⟨S16384, .f32⟩
  | 16 => ⟨S16384x1, .f32⟩
  | 17 => ⟨S16384x1, .f32⟩
  | 18 => ⟨S16384x1, .f32⟩
  | 19 => ⟨S_, .f32⟩
  | 20 => ⟨S_, .i1⟩
  | 21 => ⟨S_, .f32⟩
  | 22 => ⟨S_, .f32⟩
  | 23 => ⟨S16384x1, .f32⟩
  | 24 => ⟨S16384x1, .f32⟩
  | 25 => ⟨S16384x128, .f32⟩
  | 26 => ⟨S16384x128, .f32⟩
  | 27 => ⟨S_, .f32⟩
  | 28 => ⟨S16384x1, .f32⟩
  | 29 => ⟨S16384x1, .f32⟩
  | 30 => ⟨S16384x1, .f32⟩
  | 31 => ⟨S16384x128, .f32⟩
  | 32 => ⟨S16384x128, .f32⟩
  | 33 => ⟨S1x128, .f32⟩
  | 34 => ⟨S16384x128, .f32⟩
  | 35 => ⟨S16384x128, .f32⟩
  | 36 => ⟨S1x128, .f32⟩
  | 37 => ⟨S16384x128, .f32⟩
  | 38 => ⟨S16384x128, .f32⟩
  | 39 => ⟨S128x512, .f32⟩
  | 40 => ⟨S16384x512, .f32⟩
  | 41 => ⟨S1x512, .f32⟩
  | 42 => ⟨S16384x512, .f32⟩
  | 43 => ⟨S16384x512, .f32⟩
  | 44 => ⟨S_, .f32⟩
  | 45 => ⟨S16384x512, .f32⟩
  | 46 => ⟨S16384x512, .f32⟩
  | 47 => ⟨S16384x512, .f32⟩
  | 48 => ⟨S_, .f32⟩
  | 49 => ⟨S16384x512, .f32⟩
  | 50 => ⟨S16384x512, .f32⟩
  | 51 => ⟨S16384x512, .f32⟩
  | 52 => ⟨S16384x512, .f32⟩
  | 53 => ⟨S512x128, .f32⟩
  | 54 => ⟨S16384x128, .f32⟩
  | 55 => ⟨S1x128, .f32⟩
  | 56 => ⟨S16384x128, .f32⟩
  | 57 => ⟨S16384x128, .f32⟩
  | 58 => ⟨S16384x1, .i32⟩
  | 59 => ⟨S_, .i32⟩
  | 60 => ⟨S16384x1, .i32⟩
  | 61 => ⟨S16384x1, .i1⟩
  | 62 => ⟨S_, .i32⟩
  | 63 => ⟨S16384x1, .i32⟩
  | 64 => ⟨S16384x1, .i1⟩
  | 65 => ⟨S16384x128, .i1⟩
  | 66 => ⟨S16384x128, .f32⟩
  | 67 => ⟨S16384x128, .i1⟩
  | 68 => ⟨S16384x128, .f32⟩
  | 69 => ⟨S_, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v24 : Ref sig .tc := ⟨.hbm, 50, rfl⟩
abbrev main_c_3 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_4 : Ref sig .tc := ⟨.hbm, 60, rfl⟩
abbrev main_v33 : Ref sig .tc := ⟨.hbm, 61, rfl⟩
abbrev main_v34 : Ref sig .tc := ⟨.hbm, 62, rfl⟩
abbrev main_cst_5 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_7 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_8 : Ref sig .tc := ⟨.hbm, 95, rfl⟩
abbrev main_v64 : Ref sig .tc := ⟨.hbm, 96, rfl⟩
abbrev main_cst_9 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_10 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_11 : Ref sig .tc := ⟨.hbm, 117, rfl⟩
abbrev main_v83 : Ref sig .tc := ⟨.hbm, 118, rfl⟩
abbrev main_cst_12 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_13 : Ref sig .tc := ⟨.hbm, 123, rfl⟩
abbrev main_v87 : Ref sig .tc := ⟨.hbm, 124, rfl⟩
abbrev main_v88 : Ref sig .tc := ⟨.hbm, 125, rfl⟩
abbrev main_cst_14 : Ref sig .tc := ⟨.hbm, 126, rfl⟩
abbrev main_v89 : Ref sig .tc := ⟨.hbm, 127, rfl⟩
abbrev main_v90 : Ref sig .tc := ⟨.hbm, 128, rfl⟩
abbrev main_c_15 : Ref sig .tc := ⟨.hbm, 129, rfl⟩
abbrev main_call1_cst : Ref sig .tc := ⟨.hbm, 130, rfl⟩
abbrev main_call1_v0 : Ref sig .tc := ⟨.hbm, 131, rfl⟩
abbrev main_call1_v1 : Ref sig .tc := ⟨.hbm, 132, rfl⟩
abbrev main_call1_cst_0 : Ref sig .tc := ⟨.hbm, 133, rfl⟩
abbrev main_call1_v2 : Ref sig .tc := ⟨.hbm, 134, rfl⟩
abbrev main_call1_v3 : Ref sig .tc := ⟨.hbm, 135, rfl⟩
abbrev main_call1_v4 : Ref sig .tc := ⟨.hbm, 136, rfl⟩
abbrev main_call1_v5 : Ref sig .tc := ⟨.hbm, 137, rfl⟩
abbrev main_call1_v6 : Ref sig .tc := ⟨.hbm, 138, rfl⟩
abbrev main_call1_v7 : Ref sig .tc := ⟨.hbm, 139, rfl⟩
abbrev main_call1_cst_1 : Ref sig .tc := ⟨.hbm, 140, rfl⟩
abbrev main_call1_v8 : Ref sig .tc := ⟨.hbm, 141, rfl⟩
abbrev main_call1_cst_2 : Ref sig .tc := ⟨.hbm, 142, rfl⟩
abbrev main_call1_v9 : Ref sig .tc := ⟨.hbm, 143, rfl⟩
abbrev main_call1_v10 : Ref sig .tc := ⟨.hbm, 144, rfl⟩
abbrev main_call1_v11 : Ref sig .tc := ⟨.hbm, 145, rfl⟩
abbrev main_call1_v12 : Ref sig .tc := ⟨.hbm, 146, rfl⟩
abbrev main_call1_cst_3 : Ref sig .tc := ⟨.hbm, 147, rfl⟩
abbrev main_call1_v13 : Ref sig .tc := ⟨.hbm, 148, rfl⟩
abbrev main_call1_cst_4 : Ref sig .tc := ⟨.hbm, 149, rfl⟩
abbrev main_call1_call0_v0 : Ref sig .tc := ⟨.hbm, 150, rfl⟩
abbrev main_call1_call0_v1 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_cst_16 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_cst_17 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_cst_18 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_c_19 : Ref sig .tc := ⟨.hbm, 187, rfl⟩
abbrev main_v123 : Ref sig .tc := ⟨.hbm, 188, rfl⟩
abbrev main_v124 : Ref sig .tc := ⟨.hbm, 189, rfl⟩
abbrev main_c_20 : Ref sig .tc := ⟨.hbm, 190, rfl⟩
abbrev main_v125 : Ref sig .tc := ⟨.hbm, 191, rfl⟩
abbrev main_v126 : Ref sig .tc := ⟨.hbm, 192, rfl⟩
abbrev main_call2_v0 : Ref sig .tc := ⟨.hbm, 193, rfl⟩
abbrev main_v127 : Ref sig .tc := ⟨.hbm, 194, rfl⟩
abbrev main_call3_v0 : Ref sig .tc := ⟨.hbm, 195, rfl⟩
abbrev main_v128 : Ref sig .tc := ⟨.hbm, 196, rfl⟩
abbrev main_cst_21 : Ref sig .tc := ⟨.hbm, 197, rfl⟩

abbrev nD : Nat := 1
abbrev τ : Topo := Topo.v7x

variable {F : FTy → Type} [FloatOps F]
-- ==== Proof.Rows.lean ====
/-
  One row of the computation, as plain functions of the extended reals: what the kernel does with a row of
  the two embeddings, and what the reference does with it. The arrays appear as functions of their indices.
-/
module

public import Idealize.ShloMosaic.PureOps.Ideal
public import Idealize.ShloMosaic.Lib.Pointwise

@[expose] public section

noncomputable section

namespace Cert.Rows

open Idealize.ShloMosaic

/-- One half, as both programs write it. -/
abbrev half : EReal := Ideal.ofBits .f32 1056964608#32
/-- The rounded reciprocal of the square root of two, as both programs write it. -/
abbrev rootHalf : EReal := Ideal.ofBits .f32 1060439283#32
/-- One quarter, the kernel's scale of a score. -/
abbrev quarter : EReal := Ideal.ofBits .f32 1048576000#32
/-- The number of lanes of a row, 128. -/
abbrev lanes : EReal := Ideal.ofBits .f32 1124073472#32
/-- The constant the normalisation adds to the variance. -/
abbrev eps : EReal := Ideal.ofBits .f32 925353388#32
/-- The number of lanes of a head, 16. -/
abbrev headDim : EReal := Ideal.ofBits .f32 1098907648#32
/-- Two, the number of tokens. -/
abbrev two : EReal := Ideal.ofBits .f32 1073741824#32
/-- Minus infinity, the start of a maximum. -/
abbrev negInf : EReal := Ideal.ofBits .f32 4286578688#32

/-- The inner product of two rows. -/
def dot {n : Nat} (x w : Fin n → EReal) : EReal := ∑ p, x p * w p

/-- Two rows side by side. -/
def cat (x y : Fin 128 → EReal) (k : Fin 256) : EReal :=
  if h : ↑k < 128 then x ⟨k, h⟩ else y ⟨k - 128, by omega⟩

/-- The rows of the joint projection that make the queries. -/
def qRow (I : Fin 384 → Fin 128 → EReal) (k : Fin 128) : Fin 128 → EReal := I ⟨k, by omega⟩
/-- The rows of the joint projection that make the keys. -/
def kRow (I : Fin 384 → Fin 128 → EReal) (k : Fin 128) : Fin 128 → EReal := I ⟨128 + k, by omega⟩
/-- The rows of the joint projection that make the values. -/
def vRow (I : Fin 384 → Fin 128 → EReal) (k : Fin 128) : Fin 128 → EReal := I ⟨256 + k, by omega⟩

/-! ### The kernel's row -/

/-- The kernel's GELU, by the error function. -/
def geluK (z : EReal) : EReal := half * z * (1 + Ideal.erf (z * rootHalf))

/-- The kernel's routing score of choice `j`, from the two rows, the router's weights and the noise. -/
def scoreK (x y : Fin 128 → EReal) (W1 : Fin 128 → Fin 256 → EReal) (W2 : Fin 3 → Fin 128 → EReal)
    (g : Fin 3 → EReal) (j : Fin 3) : EReal :=
  (∑ q, geluK (dot (cat x y) (W1 q)) * W2 j q) + g j

/-- One where lane `k` belongs to head `h`, else zero. -/
def mask (k : Fin 128) (h : Fin 8) : EReal := if (k : Nat) / 16 = h then 1 else 0

/-- The kernel's difference, over the two keys, of the scores head `h` gives to the query row `x`. -/
def diffScore (q : Fin 128 → EReal) (d : Fin 128 → EReal) (I : Fin 384 → Fin 128 → EReal) (h : Fin 8) : EReal :=
  (∑ k, dot q (qRow I k) * dot d (kRow I k) * mask k h) * quarter

/-- The kernel's fused row before normalisation. -/
def fusedK (x y : Fin 128 → EReal) (G : Fin 128 → Fin 256 → EReal) (I : Fin 384 → Fin 128 → EReal)
    (O : Fin 128 → Fin 128 → EReal) (o : Fin 128) : EReal :=
  y o + Ideal.logistic (dot (cat x y) (G o)) * (x o - y o)
    + ∑ c, y c * ∑ e, O o e * vRow I e c
    + ∑ e, ((∑ h, half * (Ideal.logistic (diffScore x (fun c => x c - y c) I h)
                  + Ideal.logistic (diffScore y (fun c => x c - y c) I h)) * mask e h)
              * dot (fun c => x c - y c) (vRow I e)) * O o e

/-- The mean of a row. -/
def mean (f : Fin 128 → EReal) : EReal := Ideal.div (∑ k, f k) lanes

/-- The kernel's normalised row. -/
def normK (f : Fin 128 → EReal) (k : Fin 128) : EReal :=
  (f k - mean f) * Ideal.rsqrt (Ideal.div (∑ p, (f p - mean f) * (f p - mean f)) lanes + eps)

/-- The kernel's two layers after the normalisation. -/
def ffnK (n : Fin 128 → EReal) (F1 : Fin 512 → Fin 128 → EReal) (F2 : Fin 128 → Fin 512 → EReal) (o : Fin 128) : EReal :=
  ∑ q, geluK (dot n (F1 q)) * F2 o q

/-- Whether the first choice attains the largest score. -/
def first (s : Fin 3 → EReal) : Prop := s 1 ≤ s 0 ∧ s 2 ≤ s 0

/-- The kernel's output row: the first embedding, the second, or the fused row, by the routing scores. -/
def outK (x y : Fin 128 → EReal) (g : Fin 3 → EReal) (W1 : Fin 128 → Fin 256 → EReal) (W2 : Fin 3 → Fin 128 → EReal)
    (G : Fin 128 → Fin 256 → EReal) (I : Fin 384 → Fin 128 → EReal) (O : Fin 128 → Fin 128 → EReal)
    (F1 : Fin 512 → Fin 128 → EReal) (F2 : Fin 128 → Fin 512 → EReal) (o : Fin 128) : EReal :=
  open Classical in
  if first (scoreK x y W1 W2 g) then x o
  else if scoreK x y W1 W2 g 2 ≤ scoreK x y W1 W2 g 1 then y o
  else ffnK (normK (fusedK x y G I O)) F1 F2 o

/-! ### The reference's row -/

/-- The reference's GELU, by the complementary error function. -/
def geluR (z : EReal) : EReal := half * z * Ideal.erfc (-z * rootHalf)

/-- The reference's routing score of choice `j`. -/
def scoreR (x y : Fin 128 → EReal) (W1 : Fin 128 → Fin 256 → EReal) (b1 : Fin 128 → EReal)
    (W2 : Fin 3 → Fin 128 → EReal) (b2 g : Fin 3 → EReal) (j : Fin 3) : EReal :=
  (∑ q, geluR (dot (cat x y) (W1 q) + b1 q) * W2 j q) + b2 j + g j

/-- The reference's gate. -/
def gateR (x y : Fin 128 → EReal) (G : Fin 128 → Fin 256 → EReal) (gb : Fin 128 → EReal) (o : Fin 128) : EReal :=
  Ideal.div 1 (1 + Ideal.exp (-(dot (cat x y) (G o) + gb o)))

/-- The joint projection of token `s`. -/
def projR (x y : Fin 128 → EReal) (I : Fin 384 → Fin 128 → EReal) (ib : Fin 384 → EReal) (s : Fin 2) (k : Fin 384) : EReal :=
  (∑ c, (if ↑s < 1 then x c else y c) * I k c) + ib k

/-- The score head `h` gives, at query token `s`, to key token `t`, from the projected tokens. -/
def attnR (P : Fin 2 → Fin 384 → EReal) (h : Fin 8) (s t : Fin 2) : EReal :=
  Ideal.div (∑ d : Fin 16, P s ⟨h * 16 + d, by omega⟩ * P t ⟨128 + (h * 16 + d), by omega⟩) (Ideal.sqrt headDim)

/-- The exponential of a score, shifted by the largest of its row. -/
def expR (P : Fin 2 → Fin 384 → EReal) (h : Fin 8) (s t : Fin 2) : EReal :=
  Ideal.exp (attnR P h s t - max negInf (Finset.fold max negInf (fun u => attnR P h s u) Finset.univ))

/-- The reference's attention output, averaged over the tokens. -/
def pooledR (P : Fin 2 → Fin 384 → EReal) (O : Fin 128 → Fin 128 → EReal) (ob : Fin 128 → EReal) (o : Fin 128) : EReal :=
  Ideal.div (∑ s, ((∑ e : Fin 128, (∑ t, Ideal.div (expR P ⟨e / 16, by omega⟩ s t)
      (∑ u, expR P ⟨e / 16, by omega⟩ s u) * P t ⟨256 + e, by omega⟩) * O o e) + ob o)) two

/-- The reference's fused row before normalisation. -/
def fusedR (x y : Fin 128 → EReal) (G : Fin 128 → Fin 256 → EReal) (gb : Fin 128 → EReal)
    (I : Fin 384 → Fin 128 → EReal) (ib : Fin 384 → EReal) (O : Fin 128 → Fin 128 → EReal) (ob : Fin 128 → EReal)
    (o : Fin 128) : EReal :=
  gateR x y G gb o * x o + (1 - gateR x y G gb o) * y o + pooledR (projR x y I ib) O ob o

/-- The reference's normalised row, `n` lanes counted, scaled and shifted. -/
def normR (f : Fin 128 → EReal) (n : EReal) (other : EReal) (lw lb : Fin 128 → EReal) (k : Fin 128) : EReal :=
  Ideal.div (f k - mean f)
      (Ideal.sqrt ((if 0 < n then Ideal.div (∑ p, (f p - mean f) * (f p - mean f)) n else other) + eps))
    * lw k + lb k

/-- The reference's first layer after the normalisation. -/
def hiddenR (v : Fin 128 → EReal) (F1 : Fin 512 → Fin 128 → EReal) (fb1 : Fin 512 → EReal) (q : Fin 512) : EReal :=
  dot v (F1 q) + fb1 q

/-- The reference's second layer. -/
def ffnR (z : Fin 512 → EReal) (F2 : Fin 128 → Fin 512 → EReal) (fb2 : Fin 128 → EReal) (o : Fin 128) : EReal :=
  (∑ q, geluR (z q) * F2 o q) + fb2 o

/-- The reference's choice: the least of the three that attains the largest score. -/
def routeR (s : Fin 3 → EReal) : BitVec 32 :=
  Finset.fold IntOp.minsi 2147483647#32
    (fun j => if s j = Finset.fold max negInf s Finset.univ then BitVec.ofNat 32 ↑j else 3#32) Finset.univ

end Cert.Rows

end
-- ==== Proof.KernelRows.lean ====
/-
  The kernel's named vector values, read at one index: each is a row function of the rows it is given.
-/
module

public import proofs.«01_k».proof.Proof.Gen.KernelIdeal.Frame
public import proofs.«01_k».proof.Proof.Rows

@[expose] public section

noncomputable section

namespace Cert.Rows

open Cert.KernelIdeal Cert.KernelIdeal.Gen Idealize.ShloMosaic

/-- Row `r` of a matrix of extended reals. -/
abbrev rowOf {a b : Nat} (v : ((⟨2, ![a, b]⟩ : Shape)).Idx → EReal) (r : Fin a) : Fin b → EReal := fun k => v (ix2 r k)

section Payloads

variable (x y : Vec Ideal S4096x128 .f32) (w1 : Vec Ideal S128x256 .f32) (w2 : Vec Ideal S3x128 .f32)
  (g : Vec Ideal S4096x8 .f32) (r : Fin 4096)

/-- The two embeddings side by side. -/
theorem pay2_at (k : Fin 256) : k0_pay2 x y (ix2 r k) = cat (rowOf x r) (rowOf y r) k := by
  pointwise [k0_pay2]
  rfl

/-- The routing scores. -/
theorem pay3_at (j : Fin 3) : k0_pay3 x y w1 w2 g (ix2 r ⟨j, by omega⟩)
    = scoreK (rowOf x r) (rowOf y r) (rowOf w1) (rowOf w2) (fun j => g (ix2 r ⟨j, by omega⟩)) j := by
  pointwise [k0_pay3]
  simp only [pay2_at, Fin.is_lt, dite_true, Fin.eta, Ideal.erf_def]
  rfl

/-- Choosing by two comparisons joined. -/
theorem select_and {α : Type} (p q : Prop) [Decidable p] [Decidable q] (a b : α) :
    Scalar.select (IntOp.andi (BitVec.ofBool (decide p)) (BitVec.ofBool (decide q))) a b = if p ∧ q then a else b := by
  by_cases hp : p <;> by_cases hq : q <;> simp [hp, hq, Scalar.select, IntOp.andi]

/-- Choosing by one comparison joined to the denial of two. -/
theorem select_not_and {α : Type} (p q s : Prop) [Decidable p] [Decidable q] [Decidable s] (a b : α) :
    Scalar.select (IntOp.andi (IntOp.xori (IntOp.andi (BitVec.ofBool (decide p)) (BitVec.ofBool (decide q))) 1#1)
      (BitVec.ofBool (decide s))) a b = if ¬ (p ∧ q) ∧ s then a else b := by
  by_cases hp : p <;> by_cases hq : q <;> by_cases hs : s <;> simp [hp, hq, hs, Scalar.select, IntOp.andi, IntOp.xori]

/-- Choosing by the mask of the first choice. -/
theorem pay6_at (a b : EReal) : Scalar.select (k0_pay6 x y w1 w2 g (ix2 r 0)) a b
    = open Classical in
      if first (scoreK (rowOf x r) (rowOf y r) (rowOf w1) (rowOf w2) (fun j => g (ix2 r ⟨j, by omega⟩))) then a else b := by
  have h0 := pay3_at x y w1 w2 g r 0
  have h1 := pay3_at x y w1 w2 g r 1
  have h2 := pay3_at x y w1 w2 g r 2
  have h : k0_pay6 x y w1 w2 g (ix2 r 0)
      = IntOp.andi (BitVec.ofBool (decide (k0_pay3 x y w1 w2 g (ix2 r 1) ≤ k0_pay3 x y w1 w2 g (ix2 r 0))))
      (BitVec.ofBool (decide (k0_pay3 x y w1 w2 g (ix2 r 2) ≤ k0_pay3 x y w1 w2 g (ix2 r 0)))) := by
    pointwise [k0_pay6, k0_pay4, k0_pay5]
  rw [h, select_and]
  simp only [first, ← h0, ← h1, ← h2]
  rfl

/-- Choosing by the mask of the second choice. -/
theorem pay7_at (a b : EReal) : Scalar.select (k0_pay7 x y w1 w2 g (ix2 r 0)) a b
    = open Classical in
      if ¬ first (scoreK (rowOf x r) (rowOf y r) (rowOf w1) (rowOf w2) (fun j => g (ix2 r ⟨j, by omega⟩)))
        ∧ scoreK (rowOf x r) (rowOf y r) (rowOf w1) (rowOf w2) (fun j => g (ix2 r ⟨j, by omega⟩)) 2
          ≤ scoreK (rowOf x r) (rowOf y r) (rowOf w1) (rowOf w2) (fun j => g (ix2 r ⟨j, by omega⟩)) 1 then a else b := by
  have h0 := pay3_at x y w1 w2 g r 0
  have h1 := pay3_at x y w1 w2 g r 1
  have h2 := pay3_at x y w1 w2 g r 2
  have h : k0_pay7 x y w1 w2 g (ix2 r 0)
      = IntOp.andi (IntOp.xori (IntOp.andi (BitVec.ofBool (decide (k0_pay3 x y w1 w2 g (ix2 r 1) ≤ k0_pay3 x y w1 w2 g (ix2 r 0))))
      (BitVec.ofBool (decide (k0_pay3 x y w1 w2 g (ix2 r 2) ≤ k0_pay3 x y w1 w2 g (ix2 r 0))))) 1#1)
      (BitVec.ofBool (decide (k0_pay3 x y w1 w2 g (ix2 r 2) ≤ k0_pay3 x y w1 w2 g (ix2 r 1)))) := by
    pointwise [k0_pay7, k0_pay6, k0_pay4, k0_pay5]
  rw [h, select_not_and]
  simp only [first, ← h0, ← h1, ← h2]
  rfl

end Payloads

section Fused

variable (x y : Vec Ideal S4096x128 .f32) (I0 I1 I2 : Vec Ideal S128x128 .f32) (S : Vec Ideal S128x8 .f32)
  (E : Vec Ideal S8x128 .f32) (O : Vec Ideal S128x128 .f32) (G : Vec Ideal S128x256 .f32) (r : Fin 4096)

/-- The difference of the embeddings. -/
theorem pay8_at (k : Fin 128) : k0_pay8 x y (ix2 r k) = x (ix2 r k) - y (ix2 r k) := by
  pointwise [k0_pay8]

/-- The keys' difference. -/
theorem pay9_at (k : Fin 128) : k0_pay9 x y I1 (ix2 r k) = dot (fun c => x (ix2 r c) - y (ix2 r c)) (rowOf I1 k) := by
  pointwise [k0_pay9, k0_pay8]
  rfl

/-- The first token's query. -/
theorem pay10_at (k : Fin 128) : k0_pay10 x I0 (ix2 r k) = dot (rowOf x r) (rowOf I0 k) := by
  pointwise [k0_pay10]
  rfl

variable (I : Fin 384 → Fin 128 → EReal)

/-- The fused row before normalisation. -/
theorem pay11_at (h0 : ∀ k, rowOf I0 k = qRow I k) (h1 : ∀ k, rowOf I1 k = kRow I k) (h2 : ∀ k, rowOf I2 k = vRow I k)
    (hS : ∀ k h, S (ix2 k h) = mask k h) (hE : ∀ h k, E (ix2 h k) = mask k h) (o : Fin 128) :
    k0_pay11 y (k0_pay2 x y) (k0_pay8 x y) I0 I2 (k0_pay9 x y I1) (k0_pay10 x I0) S E O G O (ix2 r o)
      = fusedK (rowOf x r) (rowOf y r) (rowOf G) I (rowOf O) o := by
  have g0 : ∀ k c, I0 (ix2 k c) = qRow I k c := fun k c => congrFun (h0 k) c
  have g2 : ∀ k c, I2 (ix2 k c) = vRow I k c := fun k c => congrFun (h2 k) c
  pointwise [k0_pay11]
  simp only [pay2_at, pay8_at, pay9_at, pay10_at, hS, hE, h0, h1, g0, g2]
  rfl

/-- The mean of the fused row. -/
theorem pay12_at (h0 : ∀ k, rowOf I0 k = qRow I k) (h1 : ∀ k, rowOf I1 k = kRow I k) (h2 : ∀ k, rowOf I2 k = vRow I k)
    (hS : ∀ k h, S (ix2 k h) = mask k h) (hE : ∀ h k, E (ix2 h k) = mask k h) (o : Fin 128) :
    k0_pay12 y (k0_pay2 x y) (k0_pay8 x y) I0 I2 (k0_pay9 x y I1) (k0_pay10 x I0) S E O G O (ix2 r o)
      = mean (fusedK (rowOf x r) (rowOf y r) (rowOf G) I (rowOf O)) := by
  pointwise [k0_pay12]
  simp only [pay11_at x y I0 I1 I2 S E O G r I h0 h1 h2 hS hE]
  rfl

/-- What a block stores, row by row. -/
theorem pay1_at (w1 : Vec Ideal S128x256 .f32) (w2 : Vec Ideal S3x128 .f32) (g : Vec Ideal S4096x8 .f32)
    (F1 : Vec Ideal S512x128 .f32) (F2 : Vec Ideal S128x512 .f32)
    (h0 : ∀ k, rowOf I0 k = qRow I k) (h1 : ∀ k, rowOf I1 k = kRow I k) (h2 : ∀ k, rowOf I2 k = vRow I k)
    (hS : ∀ k h, S (ix2 k h) = mask k h) (hE : ∀ h k, E (ix2 h k) = mask k h) (o : Fin 128) :
    k0_pay1 x y (k0_pay6 x y w1 w2 g) (k0_pay7 x y w1 w2 g)
      (k0_pay11 y (k0_pay2 x y) (k0_pay8 x y) I0 I2 (k0_pay9 x y I1) (k0_pay10 x I0) S E O G O)
      (k0_pay12 y (k0_pay2 x y) (k0_pay8 x y) I0 I2 (k0_pay9 x y I1) (k0_pay10 x I0) S E O G O) F1 F2 (ix2 r o)
      = outK (rowOf x r) (rowOf y r) (fun j => g (ix2 r ⟨j, by omega⟩)) (rowOf w1) (rowOf w2) (rowOf G) I (rowOf O)
          (rowOf F1) (rowOf F2) o := by
  pointwise [k0_pay1]
  rw [pay6_at, pay7_at]
  simp only [pay11_at x y I0 I1 I2 S E O G r I h0 h1 h2 hS hE, pay12_at x y I0 I1 I2 S E O G r I h0 h1 h2 hS hE, Ideal.erf_def]
  unfold outK
  split_ifs <;> first | rfl | tauto

end Fused

end Cert.Rows

end
-- ==== Proof.Noise0.lean ====
/-
  The noise table, rows 0 to 2047: the kernel program holds the table with eight columns, the
  reference with three. The three columns that are used hold the same words, checked entry by entry.
-/
module

public import proofs.«01_k».proof.KernelIdeal
public import proofs.«01_k».proof.ReferenceIdeal

@[expose] public section

noncomputable section

namespace Cert.Noise

/-- Rows 0 to 2047: column `j < 3` of the kernel's eight-column table is column `j` of the
    reference's table. -/
theorem rows0 : ∀ a < 16, ∀ b < 128, ∀ j < 3,
    Cert.KernelIdeal.lit0t (8 * (128 * (0 + a) + b) + j) = Cert.ReferenceIdeal.lit0t (3 * (128 * (0 + a) + b) + j) := by
  decide +kernel

end Cert.Noise

end
-- ==== Proof.Noise1.lean ====
/-
  The noise table, rows 2048 to 4095: the kernel program holds the table with eight columns, the
  reference with three. The three columns that are used hold the same words, checked entry by entry.
-/
module

public import proofs.«01_k».proof.KernelIdeal
public import proofs.«01_k».proof.ReferenceIdeal

@[expose] public section

noncomputable section

namespace Cert.Noise

/-- Rows 2048 to 4095: column `j < 3` of the kernel's eight-column table is column `j` of the
    reference's table. -/
theorem rows1 : ∀ a < 16, ∀ b < 128, ∀ j < 3,
    Cert.KernelIdeal.lit0t (8 * (128 * (16 + a) + b) + j) = Cert.ReferenceIdeal.lit0t (3 * (128 * (16 + a) + b) + j) := by
  decide +kernel

end Cert.Noise

end
-- ==== Proof.Noise2.lean ====
/-
  The noise table, rows 4096 to 6143: the kernel program holds the table with eight columns, the
  reference with three. The three columns that are used hold the same words, checked entry by entry.
-/
module

public import proofs.«01_k».proof.KernelIdeal
public import proofs.«01_k».proof.ReferenceIdeal

@[expose] public section

noncomputable section

namespace Cert.Noise

/-- Rows 4096 to 6143: column `j < 3` of the kernel's eight-column table is column `j` of the
    reference's table. -/
theorem rows2 : ∀ a < 16, ∀ b < 128, ∀ j < 3,
    Cert.KernelIdeal.lit0t (8 * (128 * (32 + a) + b) + j) = Cert.ReferenceIdeal.lit0t (3 * (128 * (32 + a) + b) + j) := by
  decide +kernel

end Cert.Noise

end
-- ==== Proof.Noise3.lean ====
/-
  The noise table, rows 6144 to 8191: the kernel program holds the table with eight columns, the
  reference with three. The three columns that are used hold the same words, checked entry by entry.
-/
module

public import proofs.«01_k».proof.KernelIdeal
public import proofs.«01_k».proof.ReferenceIdeal

@[expose] public section

noncomputable section

namespace Cert.Noise

/-- Rows 6144 to 8191: column `j < 3` of the kernel's eight-column table is column `j` of the
    reference's table. -/
theorem rows3 : ∀ a < 16, ∀ b < 128, ∀ j < 3,
    Cert.KernelIdeal.lit0t (8 * (128 * (48 + a) + b) + j) = Cert.ReferenceIdeal.lit0t (3 * (128 * (48 + a) + b) + j) := by
  decide +kernel

end Cert.Noise

end
-- ==== Proof.Noise4.lean ====
/-
  The noise table, rows 8192 to 10239: the kernel program holds the table with eight columns, the
  reference with three. The three columns that are used hold the same words, checked entry by entry.
-/
module

public import proofs.«01_k».proof.KernelIdeal
public import proofs.«01_k».proof.ReferenceIdeal

@[expose] public section

noncomputable section

namespace Cert.Noise

/-- Rows 8192 to 10239: column `j < 3` of the kernel's eight-column table is column `j` of the
    reference's table. -/
theorem rows4 : ∀ a < 16, ∀ b < 128, ∀ j < 3,
    Cert.KernelIdeal.lit0t (8 * (128 * (64 + a) + b) + j) = Cert.ReferenceIdeal.lit0t (3 * (128 * (64 + a) + b) + j) := by
  decide +kernel

end Cert.Noise

end
-- ==== Proof.Noise5.lean ====
/-
  The noise table, rows 10240 to 12287: the kernel program holds the table with eight columns, the
  reference with three. The three columns that are used hold the same words, checked entry by entry.
-/
module

public import proofs.«01_k».proof.KernelIdeal
public import proofs.«01_k».proof.ReferenceIdeal

@[expose] public section

noncomputable section

namespace Cert.Noise

/-- Rows 10240 to 12287: column `j < 3` of the kernel's eight-column table is column `j` of the
    reference's table. -/
theorem rows5 : ∀ a < 16, ∀ b < 128, ∀ j < 3,
    Cert.KernelIdeal.lit0t (8 * (128 * (80 + a) + b) + j) = Cert.ReferenceIdeal.lit0t (3 * (128 * (80 + a) + b) + j) := by
  decide +kernel

end Cert.Noise

end
-- ==== Proof.Noise6.lean ====
/-
  The noise table, rows 12288 to 14335: the kernel program holds the table with eight columns, the
  reference with three. The three columns that are used hold the same words, checked entry by entry.
-/
module

public import proofs.«01_k».proof.KernelIdeal
public import proofs.«01_k».proof.ReferenceIdeal

@[expose] public section

noncomputable section

namespace Cert.Noise

/-- Rows 12288 to 14335: column `j < 3` of the kernel's eight-column table is column `j` of the
    reference's table. -/
theorem rows6 : ∀ a < 16, ∀ b < 128, ∀ j < 3,
    Cert.KernelIdeal.lit0t (8 * (128 * (96 + a) + b) + j) = Cert.ReferenceIdeal.lit0t (3 * (128 * (96 + a) + b) + j) := by
  decide +kernel

end Cert.Noise

end
-- ==== Proof.Noise7.lean ====
/-
  The noise table, rows 14336 to 16383: the kernel program holds the table with eight columns, the
  reference with three. The three columns that are used hold the same words, checked entry by entry.
-/
module

public import proofs.«01_k».proof.KernelIdeal
public import proofs.«01_k».proof.ReferenceIdeal

@[expose] public section

noncomputable section

namespace Cert.Noise

/-- Rows 14336 to 16383: column `j < 3` of the kernel's eight-column table is column `j` of the
    reference's table. -/
theorem rows7 : ∀ a < 16, ∀ b < 128, ∀ j < 3,
    Cert.KernelIdeal.lit0t (8 * (128 * (112 + a) + b) + j) = Cert.ReferenceIdeal.lit0t (3 * (128 * (112 + a) + b) + j) := by
  decide +kernel

end Cert.Noise

end
-- ==== Proof.Tables.lean ====
/-
  The literal tables both programs hold: the noise, and the kernel's two matrices of zeros and ones that
  add the sixteen lanes of a head and spread a head's value over its sixteen lanes.
-/
module

public import proofs.«01_k».proof.Proof.Noise0
public import proofs.«01_k».proof.Proof.Noise1
public import proofs.«01_k».proof.Proof.Noise2
public import proofs.«01_k».proof.Proof.Noise3
public import proofs.«01_k».proof.Proof.Noise4
public import proofs.«01_k».proof.Proof.Noise5
public import proofs.«01_k».proof.Proof.Noise6
public import proofs.«01_k».proof.Proof.Noise7

@[expose] public section

noncomputable section

namespace Cert.Noise

/-- The kernel's noise at row `r`, column `j < 3`, is the reference's. -/
theorem table_eq (r j : Nat) (hr : r < 16384) (hj : j < 3) :
    Cert.KernelIdeal.lit0t (8 * r + j) = Cert.ReferenceIdeal.lit0t (3 * r + j) := by
  rcases (by omega : (0 ≤ r ∧ r < 2048) ∨ (2048 ≤ r ∧ r < 4096) ∨ (4096 ≤ r ∧ r < 6144) ∨ (6144 ≤ r ∧ r < 8192) ∨ (8192 ≤ r ∧ r < 10240) ∨ (10240 ≤ r ∧ r < 12288) ∨ (12288 ≤ r ∧ r < 14336) ∨ (14336 ≤ r ∧ r < 16384)) with h | h | h | h | h | h | h | h
  · rw [show r = 128 * (0 + (r / 128 - 0)) + r % 128 by omega]
    exact rows0 _ (by omega) _ (by omega) j hj
  · rw [show r = 128 * (16 + (r / 128 - 16)) + r % 128 by omega]
    exact rows1 _ (by omega) _ (by omega) j hj
  · rw [show r = 128 * (32 + (r / 128 - 32)) + r % 128 by omega]
    exact rows2 _ (by omega) _ (by omega) j hj
  · rw [show r = 128 * (48 + (r / 128 - 48)) + r % 128 by omega]
    exact rows3 _ (by omega) _ (by omega) j hj
  · rw [show r = 128 * (64 + (r / 128 - 64)) + r % 128 by omega]
    exact rows4 _ (by omega) _ (by omega) j hj
  · rw [show r = 128 * (80 + (r / 128 - 80)) + r % 128 by omega]
    exact rows5 _ (by omega) _ (by omega) j hj
  · rw [show r = 128 * (96 + (r / 128 - 96)) + r % 128 by omega]
    exact rows6 _ (by omega) _ (by omega) j hj
  · rw [show r = 128 * (112 + (r / 128 - 112)) + r % 128 by omega]
    exact rows7 _ (by omega) _ (by omega) j hj

/-- Row `k`, column `h` of the lane sum's matrix: one where lane `k` belongs to head `h`, else zero. -/
theorem hsum_eq : ∀ k < 128, ∀ h < 8,
    Cert.KernelIdeal.lit1t (8 * k + h) = if k / 16 = h then 0x3F800000#32 else 0#32 := by
  decide +kernel

/-- Row `h`, column `k` of the spreading matrix: one where lane `k` belongs to head `h`, else zero. -/
theorem hexp_eq : ∀ h < 8, ∀ k < 128,
    Cert.KernelIdeal.lit2t (128 * h + k) = if k / 16 = h then 0x3F800000#32 else 0#32 := by
  decide +kernel

end Cert.Noise

end
-- ==== Proof.Words.lean ====
/-
  The literal tables, read at a row and a column.
-/
module

public import proofs.«01_k».proof.Proof.Tables
public import proofs.«01_k».proof.Proof.Rows

@[expose] public section

noncomputable section

namespace Cert.Noise

open Idealize.ShloMosaic

/-- The kernel's noise at row `r` and column `j < 3` is the reference's. -/
theorem noise_eq (r : Fin 16384) (j : Fin 3) :
    Cert.KernelIdeal.lit0 (Cert.KernelIdeal.S16384x8.rowMajor (ix2 r ⟨j, by omega⟩))
      = Cert.ReferenceIdeal.lit0 (Cert.ReferenceIdeal.S16384x3.rowMajor (ix2 r j)) := by
  have hk : (Cert.KernelIdeal.S16384x8.rowMajor (ix2 r (⟨j, by omega⟩ : Fin 8))).val = 8 * r + j := by
    refine (Shape.rowMajor_val_two _).trans ?_
    show r.val * 8 + j.val = _
    omega
  have hr : (Cert.ReferenceIdeal.S16384x3.rowMajor (ix2 r j)).val = 3 * r + j := by
    refine (Shape.rowMajor_val_two _).trans ?_
    show r.val * 3 + j.val = _
    omega
  show Cert.KernelIdeal.lit0t (Cert.KernelIdeal.S16384x8.rowMajor (ix2 r (⟨j, by omega⟩ : Fin 8))).val
    = Cert.ReferenceIdeal.lit0t (Cert.ReferenceIdeal.S16384x3.rowMajor (ix2 r j)).val
  rw [hk, hr]
  exact table_eq r j r.isLt j.isLt

/-- One, as a word. -/
theorem one_word : Ideal.ofBits .f32 0x3F800000#32 = (1 : EReal) := Ideal.ofBits_one_f32

/-- Zero, as a word. -/
theorem zero_word : Ideal.ofBits .f32 0#32 = (0 : EReal) := Ideal.ofBits_zero_f32

/-- The lane sum's matrix is the heads' mask. -/
theorem hsum_mask (k : Fin 128) (h : Fin 8) :
    Ideal.ofBits .f32 (Cert.KernelIdeal.lit1 (Cert.KernelIdeal.S128x8.rowMajor (ix2 k h))) = Rows.mask k h := by
  have hk : (Cert.KernelIdeal.S128x8.rowMajor (ix2 k h)).val = 8 * k + h := by
    refine (Shape.rowMajor_val_two _).trans ?_
    show k.val * 8 + h.val = _
    omega
  show Ideal.ofBits .f32 (Cert.KernelIdeal.lit1t (Cert.KernelIdeal.S128x8.rowMajor (ix2 k h)).val) = _
  rw [hk, hsum_eq k k.isLt h h.isLt, Rows.mask]
  split_ifs
  · exact one_word
  · exact zero_word

/-- The spreading matrix is the heads' mask, turned. -/
theorem hexp_mask (h : Fin 8) (k : Fin 128) :
    Ideal.ofBits .f32 (Cert.KernelIdeal.lit2 (Cert.KernelIdeal.S8x128.rowMajor (ix2 h k))) = Rows.mask k h := by
  have hk : (Cert.KernelIdeal.S8x128.rowMajor (ix2 h k)).val = 128 * h + k := by
    refine (Shape.rowMajor_val_two _).trans ?_
    show h.val * 128 + k.val = _
    omega
  show Ideal.ofBits .f32 (Cert.KernelIdeal.lit2t (Cert.KernelIdeal.S8x128.rowMajor (ix2 h k)).val) = _
  rw [hk, hexp_eq h h.isLt k k.isLt, Rows.mask]
  split_ifs
  · exact one_word
  · exact zero_word

end Cert.Noise

end
-- ==== Proof.KernelValue.lean ====
/-
  The kernel's result array after its run: row by row, the kernel's row function of the arguments' rows.
-/
module

public import proofs.«01_k».proof.Proof.KernelRows
public import proofs.«01_k».proof.Proof.Words
public import Idealize.ShloMosaic.Lib.Pipeline.ValueKit
public import Idealize.ShloMosaic.Lib.Claim

@[expose] public section

set_option maxRecDepth 16384

noncomputable section

namespace Cert.KernelValue

open Cert.KernelIdeal Cert.KernelIdeal.Gen Cert.Rows Idealize.ShloMosaic Idealize.ShloMosaic.TcCoe Idealize.SL.Sem

variable (m : (ℓ : Loc nD τ sig) → Buf (Elt Ideal) ℓ) (ρ : Dev nD → PrngReg)

/-- The noise of row `r`, as the kernel program's table holds it. -/
abbrev noise (r : Fin 16384) (j : Fin 3) : EReal := Ideal.ofBits .f32 (lit0 (S16384x8.rowMajor (ix2 r ⟨j, by omega⟩)))

/-- The result array: each row the kernel's row function of the arguments' rows. -/
def result (c : Dev nD) : Buf (Elt Ideal) ((c : Thread nD τ).loc main_v0_0) := fun i =>
  outK (fun k => m ((c : Thread nD τ).loc main_arg0) (ix2 (i 0) k)) (fun k => m ((c : Thread nD τ).loc main_arg1) (ix2 (i 0) k))
    (noise (i 0)) (fun q k => m ((c : Thread nD τ).loc main_arg2) (ix2 q k)) (fun q k => m ((c : Thread nD τ).loc main_arg4) (ix2 q k))
    (fun q k => m ((c : Thread nD τ).loc main_arg6) (ix2 q k)) (fun q k => m ((c : Thread nD τ).loc main_arg8) (ix2 q k))
    (fun q k => m ((c : Thread nD τ).loc main_arg10) (ix2 q k)) (fun q k => m ((c : Thread nD τ).loc main_arg14) (ix2 q k))
    (fun q k => m ((c : Thread nD τ).loc main_arg16) (ix2 q k)) (i 1)

/-- Each window's block index at a grid point: the row windows step with the grid, the others stay. -/
theorem idx : ∀ t : Fin cfg0.N,
    win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![t.val, 0] := (by decide +kernel : ∀ t : Fin grid0.N, _)

/-- Row `r` of point `t`'s block is row `4096 t + r` of the array. -/
abbrev row (t : Fin cfg0.N) (r : Fin 4096) : Fin 16384 := ⟨t.val * 4096 + r, by have := t.isLt; have : cfg0.N = 4 := N_0; omega⟩

/-- A row of a block of the first embedding. -/
theorem blk0 (c : Dev nD) (t : Fin cfg0.N) (r : Fin 4096) (k : Fin 128) :
    iblk m c 0 t (ix2 r k) = m ((c : Thread nD τ).loc main_arg0) (ix2 (row t r) k) := by
  have e := idx t
  blk_ext [iblk, V, e]

/-- A row of a block of the second embedding. -/
theorem blk1 (c : Dev nD) (t : Fin cfg0.N) (r : Fin 4096) (k : Fin 128) :
    iblk m c 1 t (ix2 r k) = m ((c : Thread nD τ).loc main_arg1) (ix2 (row t r) k) := by
  have e := idx t
  blk_ext [iblk, V, e]

/-- A row of a block of the noise table. -/
theorem blk2 (c : Dev nD) (t : Fin cfg0.N) (r : Fin 4096) (k : Fin 8) :
    iblk m c 2 t (ix2 r k) = Ideal.ofBits .f32 (lit0 (S16384x8.rowMajor (ix2 (row t r) k))) := by
  have e := idx t
  blk_ext [iblk, V, e]

/-- The router's first layer, whole at every point. -/
theorem blk3 (c : Dev nD) (t : Fin cfg0.N) (r : Fin 128) (k : Fin 256) :
    iblk m c 3 t (ix2 r k) = m ((c : Thread nD τ).loc main_arg2) (ix2 (r) k) := by
  have e := idx t
  blk_ext [iblk, V, e]

/-- The router's second layer, whole at every point. -/
theorem blk4 (c : Dev nD) (t : Fin cfg0.N) (r : Fin 3) (k : Fin 128) :
    iblk m c 4 t (ix2 r k) = m ((c : Thread nD τ).loc main_arg4) (ix2 (r) k) := by
  have e := idx t
  blk_ext [iblk, V, e]

/-- The gate's weights, whole at every point. -/
theorem blk5 (c : Dev nD) (t : Fin cfg0.N) (r : Fin 128) (k : Fin 256) :
    iblk m c 5 t (ix2 r k) = m ((c : Thread nD τ).loc main_arg6) (ix2 (r) k) := by
  have e := idx t
  blk_ext [iblk, V, e]

/-- The joint projection, whole at every point. -/
theorem blk6 (c : Dev nD) (t : Fin cfg0.N) (r : Fin 384) (k : Fin 128) :
    iblk m c 6 t (ix2 r k) = m ((c : Thread nD τ).loc main_arg8) (ix2 (r) k) := by
  have e := idx t
  blk_ext [iblk, V, e]

/-- The output projection, whole at every point. -/
theorem blk7 (c : Dev nD) (t : Fin cfg0.N) (r : Fin 128) (k : Fin 128) :
    iblk m c 7 t (ix2 r k) = m ((c : Thread nD τ).loc main_arg10) (ix2 (r) k) := by
  have e := idx t
  blk_ext [iblk, V, e]

/-- The first layer after the normalisation, whole at every point. -/
theorem blk8 (c : Dev nD) (t : Fin cfg0.N) (r : Fin 512) (k : Fin 128) :
    iblk m c 8 t (ix2 r k) = m ((c : Thread nD τ).loc main_arg14) (ix2 (r) k) := by
  have e := idx t
  blk_ext [iblk, V, e]

/-- The second layer after the normalisation, whole at every point. -/
theorem blk9 (c : Dev nD) (t : Fin cfg0.N) (r : Fin 128) (k : Fin 512) :
    iblk m c 9 t (ix2 r k) = m ((c : Thread nD τ).loc main_arg16) (ix2 (r) k) := by
  have e := idx t
  blk_ext [iblk, V, e]

/-- The lane sum's matrix, whole at every point. -/
theorem blk10 (c : Dev nD) (t : Fin cfg0.N) (k : Fin 128) (h : Fin 8) : iblk m c 10 t (ix2 k h) = mask k h := by
  have e := idx t
  rw [← Cert.Noise.hsum_mask]
  blk_ext [iblk, V, e]

/-- The spreading matrix, whole at every point. -/
theorem blk11 (c : Dev nD) (t : Fin cfg0.N) (h : Fin 8) (k : Fin 128) : iblk m c 11 t (ix2 h k) = mask k h := by
  have e := idx t
  rw [← Cert.Noise.hexp_mask]
  blk_ext [iblk, V, e]

/-- Loads of the joint projection: the queries' rows. -/
theorem ldQ (c : Dev nD) (t : Fin cfg0.N) (k : Fin 128) : rowOf (View.ld (iblk m c 6 t) r0_4) k
    = qRow (fun q k => m ((c : Thread nD τ).loc main_arg8) (ix2 q k)) k := by
  funext j
  refine (View.ld_unit_apply_of _ _ _ _ _ (ix2 ⟨k, by omega⟩ j) fun a => ?_).trans (blk6 m c t _ _)
  match a with
  | ⟨0, _⟩ => simp
  | ⟨1, _⟩ => simp

/-- The keys' rows. -/
theorem ldK (c : Dev nD) (t : Fin cfg0.N) (k : Fin 128) : rowOf (View.ld (iblk m c 6 t) r0_5) k
    = kRow (fun q k => m ((c : Thread nD τ).loc main_arg8) (ix2 q k)) k := by
  funext j
  refine (View.ld_unit_apply_of _ _ _ _ _ (ix2 ⟨128 + k, by omega⟩ j) fun a => ?_).trans (blk6 m c t _ _)
  match a with
  | ⟨0, _⟩ => simp
  | ⟨1, _⟩ => simp

/-- The values' rows. -/
theorem ldV (c : Dev nD) (t : Fin cfg0.N) (k : Fin 128) : rowOf (View.ld (iblk m c 6 t) r0_6) k
    = vRow (fun q k => m ((c : Thread nD τ).loc main_arg8) (ix2 q k)) k := by
  funext j
  refine (View.ld_unit_apply_of _ _ _ _ _ (ix2 ⟨256 + k, by omega⟩ j) fun a => ?_).trans (blk6 m c t _ _)
  match a with
  | ⟨0, _⟩ => simp
  | ⟨1, _⟩ => simp

/-- The place of a block's index in the result array. -/
theorem emb (t : Fin cfg0.N) (r : Fin 4096) (o : Fin 128) :
    ((View.whole main_v0_0).slice (win0_12.rect t)).emb (ix2 r o) = ix2 (row t r) o := by
  have e := idx t
  blk_ext [e]

/-- The whole staging buffer's offsets. -/
theorem hz : (![0, 0] : Fin 2 → Nat) = fun _ => 0 := funext fun a => by fin_cases a <;> rfl

/-- The result array after the run: each block's rows are the kernel's row function, and the blocks cover it. -/
theorem final (c : Dev nD) : (dats m 0 c).arrAt 12 cfg0.N = result m c := by
  refine (dats m 0 c).arrAt_eq_of_covers 12 _ (by decide +kernel) fun t hf y => ?_
  blk_simp
  rw [after0_12]
  unfold out0_12 k0_pay13 k0_pay14 k0_pay15 k0_pay16
  frame_out
  obtain ⟨r, o, rfl⟩ : ∃ (r : Fin 4096) (o : Fin 128), y = ix2 r o := ⟨y 0, y 1, funext fun a => by fin_cases a <;> rfl⟩
  rw [emb]
  refine (pay1_at _ _ _ (View.ld (iblk m c 6 t) r0_5) _ _ _ _ _ r _ _ _ _ _ _ (ldQ m c t) (ldK m c t) (ldV m c t)
    (blk10 m c t) (blk11 m c t) o).trans ?_
  unfold result rowOf
  simp only [blk0, blk1, blk2, blk3, blk4, blk5, blk7, blk8, blk9]
  rfl

/-- The second result is the constant zero the program's last line writes. -/
theorem second (c : Dev nD) : Pipeline.afterTail₀ cfgs (dats m) 0 (V0 m) [hostOps1] c main_v0_1
    = constant (F := Ideal) S_ .f32 0x00000000#32 := by
  unfold Pipeline.afterTail₀
  rfl

/-- The run, read: both results, and the arguments unchanged. -/
theorem run : θ_run defs (onTc (τ := τ) (main (F := Ideal))) ⟨m, fun _ => 0, ρ⟩ fun r => ∀ c : Dev nD,
    r.2.mem ((c : Thread nD τ).loc main_v0_0) = result m c
    ∧ r.2.mem ((c : Thread nD τ).loc main_v0_1) = constant (F := Ideal) S_ .f32 0x00000000#32
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13)
    ∧ r.2.mem ((c : Thread nD τ).loc main_arg14) = m ((c : Thread nD τ).loc main_arg14)
    ∧ r.2.mem ((c : Thread nD τ).loc main_arg15) = m ((c : Thread nD τ).loc main_arg15)
    ∧ r.2.mem ((c : Thread nD τ).loc main_arg16) = m ((c : Thread nD τ).loc main_arg16)
    ∧ r.2.mem ((c : Thread nD τ).loc main_arg17) = m ((c : Thread nD τ).loc main_arg17) :=
  (θ_run defs _ _).mono (fun _ h c => ⟨((h c).1 12).trans (final m c),
      ((h c).2 main_v0_1 (Pipeline.mem_restRefs_of main_v0_1 (by decide) (by decide))).trans (second m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 5).trans (((dats m 0 c).arrAt_in 5 rfl _).trans ((A_eq m c 5).trans (V_main_arg6 m c))),
      ((h c).2 main_arg7 (Pipeline.mem_restRefs_of main_arg7 (by decide) (by decide))).trans (W_main_arg7 m (dats m) c),
      ((h c).1 6).trans (((dats m 0 c).arrAt_in 6 rfl _).trans ((A_eq m c 6).trans (V_main_arg8 m c))),
      ((h c).2 main_arg9 (Pipeline.mem_restRefs_of main_arg9 (by decide) (by decide))).trans (W_main_arg9 m (dats m) c),
      ((h c).1 7).trans (((dats m 0 c).arrAt_in 7 rfl _).trans ((A_eq m c 7).trans (V_main_arg10 m c))),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).1 8).trans (((dats m 0 c).arrAt_in 8 rfl _).trans ((A_eq m c 8).trans (V_main_arg14 m c))),
      ((h c).2 main_arg15 (Pipeline.mem_restRefs_of main_arg15 (by decide) (by decide))).trans (W_main_arg15 m (dats m) c),
      ((h c).1 9).trans (((dats m 0 c).arrAt_in 9 rfl _).trans ((A_eq m c 9).trans (V_main_arg16 m c))),
      ((h c).2 main_arg17 (Pipeline.mem_restRefs_of main_arg17 (by decide) (by decide))).trans (W_main_arg17 m (dats m) c)⟩)
    (run_main m ρ)

end Cert.KernelValue

end
-- ==== Proof.RefRows.lean ====
/-
  The reference's named values, read at one index: each is a row function of the arguments' rows.
-/
module

public import proofs.«01_k».proof.Proof.Gen.ReferenceIdeal.Run
public import proofs.«01_k».proof.Proof.Rows
public import Idealize.ShloMosaic.Lib.Tactic.CleanTypes

@[expose] public section

noncomputable section

namespace Cert.RefRows

open Cert.ReferenceIdeal Cert.ReferenceIdeal.Gen Cert.ReferenceIdeal.Value Idealize.ShloMosaic Idealize.ShloMosaic.StableHlo Cert.Rows

variable (V0 : Valuation τ sig (Elt Ideal))

/-- The first embedding's row. -/
abbrev X (r : Fin 16384) : Fin 128 → EReal := fun k => V0 (Proc.tc.devRef main_arg0) (ix2 r k)
/-- The second embedding's row. -/
abbrev Y (r : Fin 16384) : Fin 128 → EReal := fun k => V0 (Proc.tc.devRef main_arg1) (ix2 r k)
/-- The router's first layer. -/
abbrev W1 : Fin 128 → Fin 256 → EReal := fun q k => V0 (Proc.tc.devRef main_arg2) (ix2 q k)
/-- Its bias. -/
abbrev b1 : Fin 128 → EReal := fun q => V0 (Proc.tc.devRef main_arg3) (ix1 q)
/-- The router's second layer. -/
abbrev W2 : Fin 3 → Fin 128 → EReal := fun q k => V0 (Proc.tc.devRef main_arg4) (ix2 q k)
/-- Its bias. -/
abbrev b2 : Fin 3 → EReal := fun q => V0 (Proc.tc.devRef main_arg5) (ix1 q)
/-- The gate's weights. -/
abbrev G : Fin 128 → Fin 256 → EReal := fun q k => V0 (Proc.tc.devRef main_arg6) (ix2 q k)
/-- The gate's bias. -/
abbrev gb : Fin 128 → EReal := fun q => V0 (Proc.tc.devRef main_arg7) (ix1 q)
/-- The joint projection. -/
abbrev PI : Fin 384 → Fin 128 → EReal := fun q k => V0 (Proc.tc.devRef main_arg8) (ix2 q k)
/-- Its bias. -/
abbrev ib : Fin 384 → EReal := fun q => V0 (Proc.tc.devRef main_arg9) (ix1 q)
/-- The output projection. -/
abbrev O : Fin 128 → Fin 128 → EReal := fun q k => V0 (Proc.tc.devRef main_arg10) (ix2 q k)
/-- Its bias. -/
abbrev ob : Fin 128 → EReal := fun q => V0 (Proc.tc.devRef main_arg11) (ix1 q)
/-- The normalisation's scale. -/
abbrev lw : Fin 128 → EReal := fun q => V0 (Proc.tc.devRef main_arg12) (ix1 q)
/-- The normalisation's shift. -/
abbrev lb : Fin 128 → EReal := fun q => V0 (Proc.tc.devRef main_arg13) (ix1 q)
/-- The first layer after the normalisation. -/
abbrev F1 : Fin 512 → Fin 128 → EReal := fun q k => V0 (Proc.tc.devRef main_arg14) (ix2 q k)
/-- Its bias. -/
abbrev fb1 : Fin 512 → EReal := fun q => V0 (Proc.tc.devRef main_arg15) (ix1 q)
/-- The second layer after the normalisation. -/
abbrev F2 : Fin 128 → Fin 512 → EReal := fun q k => V0 (Proc.tc.devRef main_arg16) (ix2 q k)
/-- Its bias. -/
abbrev fb2 : Fin 128 → EReal := fun q => V0 (Proc.tc.devRef main_arg17) (ix1 q)
/-- The noise of row `r`. -/
abbrev noise (r : Fin 16384) : Fin 3 → EReal := fun j => Ideal.ofBits .f32 (lit0 (S16384x3.rowMajor (ix2 r j)))

/-- The two embeddings side by side. -/
theorem v0_at (r : Fin 16384) (k : Fin 256) : res_main_v0 V0 (ix2 r k) = cat (X V0 r) (Y V0 r) k := by
  unfold res_main_v0
  clean_types
  pointwise
  rfl

/-- The router's hidden row. -/
theorem v5_at (r : Fin 16384) (k : Fin 128) :
    res_main_v5 V0 (ix2 r k) = dot (cat (X V0 r) (Y V0 r)) (W1 V0 k) + b1 V0 k := by
  unfold res_main_v5
  clean_types
  pointwise
  simp only [v0_at]
  rfl

/-- The routing scores. -/
theorem v18_at (r : Fin 16384) (k : Fin 3) : res_main_v18 V0 (ix2 r k)
    = scoreR (X V0 r) (Y V0 r) (W1 V0) (b1 V0) (W2 V0) (b2 V0) (noise r) k := by
  unfold res_main_v18
  clean_types
  pointwise
  simp only [v5_at]
  rfl

/-- The gate. -/
theorem v36_at (r : Fin 16384) (k : Fin 128) : res_main_v36 V0 (ix2 r k) = gateR (X V0 r) (Y V0 r) (G V0) (gb V0) k := by
  unfold res_main_v36
  clean_types
  pointwise
  simp only [v0_at]
  rfl

/-- The joint projection of each token. -/
theorem v49_at (r : Fin 16384) (s : Fin 2) (k : Fin 384) :
    res_main_v49 V0 (ix3 r s k) = projR (X V0 r) (Y V0 r) (PI V0) (ib V0) s k := by
  unfold res_main_v49
  clean_types
  pointwise
  rfl

/-- The attention scores. -/
theorem v63_at (r : Fin 16384) (h : Fin 8) (s k : Fin 2) :
    res_main_v63 V0 (ix4 r h s k) = attnR (projR (X V0 r) (Y V0 r) (PI V0) (ib V0)) h s k := by
  unfold res_main_v63
  clean_types
  pointwise
  simp only [v49_at]
  rfl

/-- The shifted exponentials. -/
theorem v70_at (r : Fin 16384) (h : Fin 8) (s k : Fin 2) :
    res_main_v70 V0 (ix4 r h s k) = expR (projR (X V0 r) (Y V0 r) (PI V0) (ib V0)) h s k := by
  unfold res_main_v70
  clean_types
  pointwise
  simp only [v63_at]
  rfl

/-- The fused row before normalisation. -/
theorem v86_at (r : Fin 16384) (k : Fin 128) :
    res_main_v86 V0 (ix2 r k) = fusedR (X V0 r) (Y V0 r) (G V0) (gb V0) (PI V0) (ib V0) (O V0) (ob V0) k := by
  unfold res_main_v86
  clean_types
  pointwise
  simp only [v70_at, v49_at, v36_at]
  rfl

/-- The fused row of the reference. -/
abbrev fused (r : Fin 16384) : Fin 128 → EReal :=
  fusedR (X V0 r) (Y V0 r) (G V0) (gb V0) (PI V0) (ib V0) (O V0) (ob V0)

/-- The fused row less its mean. -/
theorem c5_at (r : Fin 16384) (k : Fin 128) : res_main_call1_v5 V0 (ix2 r k) = fused V0 r k - mean (fused V0 r) := by
  unfold res_main_call1_v5
  clean_types
  pointwise
  simp only [v86_at]
  rfl

/-- The number of lanes the variance divides by. -/
abbrev count : EReal := res_main_call1_v8 V0 ix0

/-- The number of lanes, read. -/
theorem c8_at : count V0 = lanes - FloatOps.sitofp (F := Ideal) .f32 0#32 := by
  unfold count res_main_call1_v8
  clean_types
  pointwise

/-- What stands for the variance where no lane is counted. -/
abbrev other : EReal := Ideal.ofBits .f32 2143289344#32

/-- The first layer after the normalisation. -/
theorem v109_at (r : Fin 16384) (q : Fin 512) : res_main_v109 V0 (ix2 r q)
    = hiddenR (normR (fused V0 r) (count V0) other (lw V0) (lb V0)) (F1 V0) (fb1 V0) q := by
  unfold res_main_v109
  clean_types
  pointwise
  simp only [v86_at, c5_at]
  rfl

/-- The choice. -/
theorem v122_at (r : Fin 16384) : res_main_v122 V0 (ix2 r 0)
    = routeR (scoreR (X V0 r) (Y V0 r) (W1 V0) (b1 V0) (W2 V0) (b2 V0) (noise r)) := by
  unfold res_main_v122
  clean_types
  pointwise
  simp only [v18_at]
  rfl

/-- The reference's result array, as the run leaves it. -/
abbrev result : FVec Ideal S16384x128 .f32 :=
  select (broadcastInDim S16384x128 ![0, 1] bcast_S16384x1_S16384x128_0_1 (cmpi .eq (res_main_v122 V0) (broadcastInDim S16384x1 ![] bcast_S_S16384x1 (constantI S_ 32 0#32)))) (V0 (Proc.devRef .tc main_arg0)) (select (broadcastInDim S16384x128 ![0, 1] bcast_S16384x1_S16384x128_0_1 (cmpi .eq (res_main_v122 V0) (broadcastInDim S16384x1 ![] bcast_S_S16384x1 (constantI S_ 32 1#32)))) (V0 (Proc.devRef .tc main_arg1)) (addf (Host.dotGeneral (φ₂ := .f32) dot_S16384x512_S512x128_S16384x128_1_0_0_1_n_n none (mulf (mulf (broadcastInDim S16384x512 ![] bcast_S_S16384x512 (constant S_ .f32 0x3F000000#32)) (res_main_v109 V0)) (Host.erfc (mulf (Host.negf (res_main_v109 V0)) (broadcastInDim S16384x512 ![] bcast_S_S16384x512 (constant S_ .f32 0x3F3504F3#32))))) (transpose (s := S128x512) (α := Ideal .f32) S512x128 [1, 0] (V0 (Proc.devRef .tc main_arg16)) transposes_S128x512_S512x128_1_0)) (broadcastInDim S16384x128 ![0, 1] bcast_S1x128_S16384x128_0_1 (broadcastInDim S1x128 ![1] bcast_S128_S1x128_1 (V0 (Proc.devRef .tc main_arg17))))))

/-- The scores of row `r`. -/
abbrev scores (r : Fin 16384) : Fin 3 → EReal := scoreR (X V0 r) (Y V0 r) (W1 V0) (b1 V0) (W2 V0) (b2 V0) (noise r)

/-- Choosing by an equality of words. -/
theorem select_eq {α : Type} (a b : BitVec 32) (x y : α) :
    Scalar.select (IntOp.cmpi .eq a b) x y = if a = b then x else y := by
  by_cases h : a = b
  · simp [h, Scalar.select, IntOp.cmpi]
  · have h' : (a == b) = false := by simpa using h
    simp [h, h', Scalar.select, IntOp.cmpi]

/-- The reference's result, row by row. -/
theorem result_at (r : Fin 16384) (o : Fin 128) : result V0 (ix2 r o)
    = if routeR (scores V0 r) = 0#32 then X V0 r o else if routeR (scores V0 r) = 1#32 then Y V0 r o
      else ffnR (hiddenR (normR (fused V0 r) (count V0) other (lw V0) (lb V0)) (F1 V0) (fb1 V0)) (F2 V0) (fb2 V0) o := by
  unfold result
  pointwise
  rw [select_eq, select_eq, v122_at]
  simp only [v109_at]
  rfl

end Cert.RefRows

end
-- ==== Proof.Routing.lean ====
/-
  The routing: the GELU by the error function is the GELU by its complement, the scores agree, and the least
  index attaining the largest score is what the two comparisons choose.
-/
module

public import proofs.«01_k».proof.Proof.Rows

@[expose] public section

noncomputable section

namespace Cert.Rows

open Idealize.ShloMosaic

/-- The two spellings of the GELU agree at every extended real. -/
theorem gelu_eq (z : EReal) : geluR z = geluK z := by
  unfold geluR geluK
  rw [EReal.neg_mul, Ideal.erfc_neg]

/-- With the biases zero the reference's routing scores are the kernel's. -/
theorem score_eq (x y : Fin 128 → EReal) (W1 : Fin 128 → Fin 256 → EReal) (b1 : Fin 128 → EReal)
    (W2 : Fin 3 → Fin 128 → EReal) (b2 g : Fin 3 → EReal) (h1 : ∀ q, b1 q = 0) (h2 : ∀ q, b2 q = 0) :
    scoreR x y W1 b1 W2 b2 g = scoreK x y W1 W2 g := by
  funext j
  simp only [scoreR, scoreK, gelu_eq, h1, h2, add_zero]

/-- Minus infinity is the least extended real. -/
theorem negInf_eq : negInf = ⊥ := by
  simp [negInf, Ideal.ofBits, Ideal.ieee]

/-- The largest of three scores. -/
theorem fold_max (s : Fin 3 → EReal) : Finset.fold max negInf s Finset.univ = max (s 0) (max (s 1) (s 2)) := by
  rw [negInf_eq, show (Finset.univ : Finset (Fin 3)) = {0, 1, 2} from by decide]
  simp [Finset.fold_insert]

/-- The least of three words, from the largest word. -/
theorem fold_min (w : Fin 3 → BitVec 32) : Finset.fold IntOp.minsi 2147483647#32 w Finset.univ
    = IntOp.minsi (w 0) (IntOp.minsi (w 1) (IntOp.minsi (w 2) 2147483647#32)) := by
  rw [show (Finset.univ : Finset (Fin 3)) = {0, 1, 2} from by decide]
  simp [Finset.fold_insert]

/-- The least index attaining the largest score, by two comparisons. -/
theorem route_eq (s : Fin 3 → EReal) [Decidable (first s)] :
    routeR s = if first s then 0#32 else if s 2 ≤ s 1 then 1#32 else 2#32 := by
  rw [routeR, fold_min, fold_max]
  by_cases h : first s
  · have h0 : s 0 = max (s 0) (max (s 1) (s 2)) := (max_eq_left (max_le h.1 h.2)).symm
    rw [if_pos h, if_pos h0]
    split_ifs <;> decide
  · rw [if_neg h]
    by_cases h' : s 2 ≤ s 1
    · have h01 : s 0 < s 1 := lt_of_not_ge fun g => h ⟨g, h'.trans g⟩
      have hM : max (s 0) (max (s 1) (s 2)) = s 1 := by rw [max_eq_left h', max_eq_right h01.le]
      rw [hM, if_pos h', if_neg h01.ne, if_pos rfl]
      split_ifs <;> decide
    · have h12 : s 1 < s 2 := lt_of_not_ge h'
      have h02 : s 0 < s 2 := lt_of_not_ge fun g => h ⟨h12.le.trans g, g⟩
      have hM : max (s 0) (max (s 1) (s 2)) = s 2 := by rw [max_eq_right h12.le, max_eq_right h02.le]
      rw [hM, if_neg h', if_neg h02.ne, if_neg h12.ne, if_pos rfl]
      decide

/-- What the reference chooses between is what the kernel chooses between. -/
theorem choose_eq (s : Fin 3 → EReal) (a b c : EReal) :
    (if routeR s = 0#32 then a else if routeR s = 1#32 then b else c)
      = open Classical in if first s then a else if s 2 ≤ s 1 then b else c := by
  classical
  rw [route_eq]
  split_ifs <;> first | rfl | simp_all

end Cert.Rows

end
-- ==== Proof.Fused.lean ====
/-
  The fused row: on finite arguments, the kernel's rearranged attention (a logistic of the scores' difference,
  the output projection folded into the values') is the reference's softmax over two keys, averaged.
-/
module

public import proofs.«01_k».proof.Proof.Rows

@[expose] public section

noncomputable section

namespace Cert.Rows

open Idealize.ShloMosaic

/-! ### The constants, as real numbers -/

/-- One half. -/
theorem half_eq : half = ((1 / 2 : ℝ) : EReal) := by
  simp [half, Ideal.ofBits, Ideal.ieee, -EReal.coe_mul]; norm_num
/-- One quarter. -/
theorem quarter_eq : quarter = ((1 / 4 : ℝ) : EReal) := by
  simp [quarter, Ideal.ofBits, Ideal.ieee, -EReal.coe_mul]; norm_num
/-- One hundred and twenty-eight. -/
theorem lanes_eq : lanes = ((128 : ℝ) : EReal) := by
  simp [lanes, Ideal.ofBits, Ideal.ieee, -EReal.coe_mul]; norm_num
/-- Sixteen. -/
theorem headDim_eq : headDim = ((16 : ℝ) : EReal) := by
  simp [headDim, Ideal.ofBits, Ideal.ieee, -EReal.coe_mul]; norm_num
/-- Two. -/
theorem two_eq : two = ((2 : ℝ) : EReal) := by
  simp [two, Ideal.ofBits, Ideal.ieee, -EReal.coe_mul]; norm_num
/-- The constant added to the variance is a positive real. -/
theorem eps_pos : ∃ e : ℝ, 0 < e ∧ eps = (e : EReal) := by
  refine ⟨10995116 / 2 ^ 40, by norm_num, ?_⟩
  simp [eps, Ideal.ofBits, Ideal.ieee, -EReal.coe_mul]; norm_num

/-! ### Sums of reals -/

/-- A sum of reals is a real. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The logistic function of any extended real is a real. -/
theorem logistic_real (x : EReal) : ∃ g : ℝ, Ideal.logistic x = (g : EReal) := by
  induction x with
  | bot => exact ⟨0, by simp⟩
  | top => exact ⟨1, by simp⟩
  | coe r => exact ⟨_, Ideal.logistic_coe r⟩

/-- A quotient of reals. -/
theorem div_real (a b : ℝ) (hb : b ≠ 0) : Ideal.div a b = ((a / b : ℝ) : EReal) := by
  rw [Ideal.div_coe hb, ← EReal.coe_mul]; congr 1; ring

/-! ### The two matrices of zeros and ones -/

/-- Summing lanes against a head's mask keeps the sixteen lanes of the head. -/
theorem sum_mask (f : Fin 128 → EReal) (h : Fin 8) :
    ∑ k, f k * mask k h = ∑ d : Fin 16, f ⟨h * 16 + d, by omega⟩ := by
  have hp : ∑ k, f k * mask k h
      = ∑ p : Fin 8 × Fin 16, f ⟨p.1 * 16 + p.2, by omega⟩ * mask ⟨p.1 * 16 + p.2, by omega⟩ h := by
    refine (Fintype.sum_equiv (finProdFinEquiv (m := 8) (n := 16)) _ _ fun p => ?_).symm
    have e : (⟨p.1 * 16 + p.2, by omega⟩ : Fin 128) = finProdFinEquiv (m := 8) (n := 16) p :=
      Fin.ext (by simp [finProdFinEquiv]; omega)
    rw [e]
  rw [hp, Fintype.sum_prod_type, Finset.sum_eq_single h]
  · refine Finset.sum_congr rfl fun d _ => ?_
    rw [mask, if_pos (by simp; omega), mul_one]
  · intro a _ ha
    refine Finset.sum_eq_zero fun d _ => ?_
    rw [mask, if_neg (by simp; omega), mul_zero]
  · simp

/-- Spreading the heads' values over the lanes gives each lane its head's value. -/
theorem sum_spread (f : Fin 8 → EReal) (e : Fin 128) : ∑ h, f h * mask e h = f ⟨e / 16, by omega⟩ := by
  rw [Finset.sum_eq_single ⟨e / 16, by omega⟩]
  · rw [mask, if_pos rfl, mul_one]
  · intro h _ hh
    rw [mask, if_neg (fun g => hh (Fin.ext g.symm)), mul_zero]
  · simp

/-! ### On finite arguments -/

section Finite

variable (x y : Fin 128 → ℝ) (I : Fin 384 → Fin 128 → ℝ) (O : Fin 128 → Fin 128 → ℝ)

/-- The joint projection of token `s`, a real. -/
def proj (s : Fin 2) (k : Fin 384) : ℝ := ∑ c, (if ↑s < 1 then x c else y c) * I k c

/-- The score of head `h` between tokens `s` and `t`, a real. -/
def attn (h : Fin 8) (s t : Fin 2) : ℝ :=
  (∑ d : Fin 16, proj x y I s ⟨h * 16 + d, by omega⟩ * proj x y I t ⟨128 + (h * 16 + d), by omega⟩) / 4

/-- The inner product of finite rows. -/
theorem dot_coe {n : Nat} (a b : Fin n → ℝ) : dot (fun i => (a i : EReal)) (fun i => (b i : EReal)) = ((∑ i, a i * b i : ℝ) : EReal) := by
  simp only [dot, ← EReal.coe_mul, sum_coe]

/-- The reference's projection without its bias. -/
theorem projR_coe (ib : Fin 384 → EReal) (hib : ∀ k, ib k = 0) (s : Fin 2) (k : Fin 384) :
    projR (fun c => (x c : EReal)) (fun c => (y c : EReal)) (fun k c => (I k c : EReal)) ib s k = (proj x y I s k : EReal) := by
  rw [projR, hib, add_zero, proj, ← sum_coe]
  refine Finset.sum_congr rfl fun c _ => ?_
  split_ifs <;> rw [← EReal.coe_mul]

/-- The projection of the first token. -/
theorem dot_first (k : Fin 384) : dot (fun c => (x c : EReal)) (fun c => (I k c : EReal)) = (proj x y I 0 k : EReal) := by
  rw [dot_coe, proj]; simp

/-- The projection of the second token. -/
theorem dot_second (k : Fin 384) : dot (fun c => (y c : EReal)) (fun c => (I k c : EReal)) = (proj x y I 1 k : EReal) := by
  rw [dot_coe, proj]; simp

/-- The projection of the tokens' difference. -/
theorem dot_diff (k : Fin 384) : dot (fun c => (x c : EReal) - (y c : EReal)) (fun c => (I k c : EReal))
    = ((proj x y I 0 k - proj x y I 1 k : ℝ) : EReal) := by
  simp only [← EReal.coe_sub]
  rw [dot_coe, proj, proj, ← Finset.sum_sub_distrib]
  congr 1
  refine Finset.sum_congr rfl fun c _ => ?_
  simp; ring

/-- The kernel's difference of scores is the difference of the scores. -/
theorem diffScore_coe (q : Fin 128 → EReal) (s : Fin 2) (h : Fin 8)
    (hq : ∀ k, dot q (fun c => (I k c : EReal)) = (proj x y I s k : EReal)) :
    diffScore q (fun c => (x c : EReal) - (y c : EReal)) (fun k c => (I k c : EReal)) h
      = ((attn x y I h s 0 - attn x y I h s 1 : ℝ) : EReal) := by
  unfold diffScore qRow kRow
  rw [sum_mask]
  simp only [hq, dot_diff]
  simp only [← EReal.coe_mul, sum_coe, quarter_eq]
  congr 1
  rw [attn, attn, ← sub_div, ← Finset.sum_sub_distrib, mul_one_div]
  congr 1
  refine Finset.sum_congr rfl fun d _ => ?_
  ring

/-- The reference's score. -/
theorem attnR_coe (h : Fin 8) (s t : Fin 2) :
    attnR (fun s k => (proj x y I s k : EReal)) h s t = (attn x y I h s t : EReal) := by
  unfold attnR
  have hs : Ideal.sqrt headDim = ((4 : ℝ) : EReal) := by
    rw [headDim_eq, Ideal.sqrt_coe, if_neg (by norm_num)]
    congr 1
    rw [show (16 : ℝ) = 4 ^ 2 by norm_num]
    exact Real.sqrt_sq (by norm_num)
  rw [hs]
  simp only [← EReal.coe_mul, sum_coe]
  rw [div_real _ _ (by norm_num), attn]

/-- The reference's shifted exponential. -/
theorem expR_coe (h : Fin 8) (s t : Fin 2) :
    expR (fun s k => (proj x y I s k : EReal)) h s t
      = (Real.exp (attn x y I h s t - max (attn x y I h s 0) (attn x y I h s 1)) : EReal) := by
  have hb : negInf = ⊥ := by simp [negInf, Ideal.ofBits, Ideal.ieee]
  have hm : max negInf (Finset.fold max negInf (fun u => (attn x y I h s u : EReal)) Finset.univ)
      = ((max (attn x y I h s 0) (attn x y I h s 1) : ℝ) : EReal) := by
    rw [hb, show (Finset.univ : Finset (Fin 2)) = {0, 1} from by decide]
    simp only [Finset.fold_insert (show (0 : Fin 2) ∉ ({1} : Finset (Fin 2)) by decide), Finset.fold_singleton, bot_le, max_eq_right, max_bot_right]
    exact EReal.coe_strictMono.monotone.map_max.symm
  unfold expR
  simp only [attnR_coe]
  rw [hm, ← EReal.coe_sub, Ideal.exp_coe]

/-- A softmax over two scores, applied to two values: the logistic of the scores' difference mixes them. -/
theorem softmax_two (a b m u v : ℝ) :
    Real.exp (a - m) / (Real.exp (a - m) + Real.exp (b - m)) * u
        + Real.exp (b - m) / (Real.exp (a - m) + Real.exp (b - m)) * v
      = v + (1 + Real.exp (-(a - b)))⁻¹ * (u - v) := by
  have hb : Real.exp (b - m) = Real.exp (a - m) * Real.exp (-(a - b)) := by rw [← Real.exp_add]; congr 1; ring
  have h1 := Real.exp_pos (a - m)
  have h2 := Real.exp_pos (-(a - b))
  rw [hb]
  generalize Real.exp (a - m) = p at *
  generalize Real.exp (-(a - b)) = q at *
  have : p + p * q ≠ 0 := by positivity
  have : 1 + q ≠ 0 := by positivity
  field_simp
  ring

/-- The logistic of the difference of the scores of query token `s`. -/
def weight (h : Fin 8) (s : Fin 2) : ℝ := (1 + Real.exp (-(attn x y I h s 0 - attn x y I h s 1)))⁻¹

/-- The reference's attention output, averaged over the tokens, a real. -/
theorem pooledR_coe (ob : Fin 128 → EReal) (hob : ∀ o, ob o = 0) (o : Fin 128) :
    pooledR (fun s k => (proj x y I s k : EReal)) (fun o e => (O o e : EReal)) ob o
      = (((∑ e : Fin 128, (proj x y I 1 ⟨256 + e, by omega⟩ + weight x y I ⟨e / 16, by omega⟩ 0
              * (proj x y I 0 ⟨256 + e, by omega⟩ - proj x y I 1 ⟨256 + e, by omega⟩)) * O o e)
          + (∑ e : Fin 128, (proj x y I 1 ⟨256 + e, by omega⟩ + weight x y I ⟨e / 16, by omega⟩ 1
              * (proj x y I 0 ⟨256 + e, by omega⟩ - proj x y I 1 ⟨256 + e, by omega⟩)) * O o e)) / 2 : ℝ) := by
  have hw : ∀ (s : Fin 2) (e : Fin 128), (∑ t, Ideal.div (expR (fun s k => (proj x y I s k : EReal)) ⟨e / 16, by omega⟩ s t)
      (∑ u, expR (fun s k => (proj x y I s k : EReal)) ⟨e / 16, by omega⟩ s u) * (proj x y I t ⟨256 + e, by omega⟩ : EReal))
      = ((proj x y I 1 ⟨256 + e, by omega⟩ + weight x y I ⟨e / 16, by omega⟩ s
              * (proj x y I 0 ⟨256 + e, by omega⟩ - proj x y I 1 ⟨256 + e, by omega⟩) : ℝ) : EReal) := by
    intro s e
    simp only [expR_coe, Fin.sum_univ_two, ← EReal.coe_add]
    rw [div_real _ _ (by positivity), div_real _ _ (by positivity), ← EReal.coe_mul, ← EReal.coe_mul, ← EReal.coe_add,
      softmax_two]
    rfl
  unfold pooledR
  simp only [hw]
  simp only [hob, add_zero, ← EReal.coe_mul, sum_coe, Fin.sum_univ_two, ← EReal.coe_add, two_eq]
  rw [div_real _ _ (by norm_num)]

/-- The kernel's fused row, a real. -/
theorem fusedK_coe (G : Fin 128 → Fin 256 → EReal) (o : Fin 128) (g : ℝ)
    (hg : Ideal.logistic (dot (cat (fun c => (x c : EReal)) (fun c => (y c : EReal))) (G o)) = (g : EReal)) :
    fusedK (fun c => (x c : EReal)) (fun c => (y c : EReal)) G (fun k c => (I k c : EReal)) (fun o e => (O o e : EReal)) o
      = ((y o + g * (x o - y o) + ∑ c, y c * ∑ e : Fin 128, O o e * I ⟨256 + e, by omega⟩ c
          + ∑ e : Fin 128, (1 / 2 * (weight x y I ⟨e / 16, by omega⟩ 0 + weight x y I ⟨e / 16, by omega⟩ 1)
              * (proj x y I 0 ⟨256 + e, by omega⟩ - proj x y I 1 ⟨256 + e, by omega⟩)) * O o e : ℝ) : EReal) := by
  have d0 := fun h => diffScore_coe x y I (fun c => (x c : EReal)) 0 h (dot_first x y I)
  have d1 := fun h => diffScore_coe x y I (fun c => (y c : EReal)) 1 h (dot_second x y I)
  unfold fusedK
  simp only [sum_spread, d0, d1, Ideal.logistic_coe, hg, half_eq]
  unfold vRow
  simp only [dot_diff]
  simp only [← EReal.coe_mul, ← EReal.coe_sub, sum_coe, ← EReal.coe_add]
  rfl

/-- The folded output projection, summed in the other order. -/
theorem folded (o : Fin 128) : ∑ c, y c * ∑ e : Fin 128, O o e * I ⟨256 + e, by omega⟩ c
    = ∑ e : Fin 128, proj x y I 1 ⟨256 + e, by omega⟩ * O o e := by
  simp only [proj, Finset.mul_sum, Finset.sum_mul]
  rw [Finset.sum_comm]
  refine Finset.sum_congr rfl fun e _ => Finset.sum_congr rfl fun c _ => ?_
  simp; ring

/-- On finite arguments without biases the two fused rows are one row of reals. -/
theorem fused_coe (G : Fin 128 → Fin 256 → EReal) (gb : Fin 128 → EReal) (ib : Fin 384 → EReal) (ob : Fin 128 → EReal)
    (hgb : ∀ o, gb o = 0) (hib : ∀ k, ib k = 0) (hob : ∀ o, ob o = 0) (o : Fin 128) :
    ∃ f : ℝ, fusedK (fun c => (x c : EReal)) (fun c => (y c : EReal)) G (fun k c => (I k c : EReal)) (fun o e => (O o e : EReal)) o = (f : EReal)
      ∧ fusedR (fun c => (x c : EReal)) (fun c => (y c : EReal)) G gb (fun k c => (I k c : EReal)) ib (fun o e => (O o e : EReal)) ob o = (f : EReal) := by
  obtain ⟨g, hg⟩ := logistic_real (dot (cat (fun c => (x c : EReal)) (fun c => (y c : EReal))) (G o))
  refine ⟨_, fusedK_coe x y I O G o g hg, ?_⟩
  have hgR : gateR (fun c => (x c : EReal)) (fun c => (y c : EReal)) G gb o = (g : EReal) := by
    rw [gateR, hgb, add_zero]; exact hg
  have hP : projR (fun c => (x c : EReal)) (fun c => (y c : EReal)) (fun k c => (I k c : EReal)) ib
      = fun s k => (proj x y I s k : EReal) := funext fun s => funext fun k => projR_coe x y I ib hib s k
  rw [fusedR, hgR, hP, pooledR_coe x y I O ob hob, folded x y I O, ← EReal.coe_one, ← EReal.coe_sub,
    ← EReal.coe_mul, ← EReal.coe_mul, ← EReal.coe_add, ← EReal.coe_add]
  congr 1
  have hs : (∑ e : Fin 128, (proj x y I 1 ⟨256 + e, by omega⟩ + weight x y I ⟨e / 16, by omega⟩ 0
              * (proj x y I 0 ⟨256 + e, by omega⟩ - proj x y I 1 ⟨256 + e, by omega⟩)) * O o e
          + ∑ e : Fin 128, (proj x y I 1 ⟨256 + e, by omega⟩ + weight x y I ⟨e / 16, by omega⟩ 1
              * (proj x y I 0 ⟨256 + e, by omega⟩ - proj x y I 1 ⟨256 + e, by omega⟩)) * O o e) / 2
      = ∑ e : Fin 128, proj x y I 1 ⟨256 + e, by omega⟩ * O o e
        + ∑ e : Fin 128, (1 / 2 * (weight x y I ⟨e / 16, by omega⟩ 0 + weight x y I ⟨e / 16, by omega⟩ 1)
              * (proj x y I 0 ⟨256 + e, by omega⟩ - proj x y I 1 ⟨256 + e, by omega⟩)) * O o e := by
    rw [← Finset.sum_add_distrib, ← Finset.sum_add_distrib, Finset.sum_div]
    refine Finset.sum_congr rfl fun e _ => ?_
    ring
  rw [hs]
  ring

end Finite

end Cert.Rows

end
-- ==== Proof.Norm.lean ====
/-
  After the fused row: dividing by a square root is multiplying by its reciprocal, and the two layers agree.
-/
module

public import proofs.«01_k».proof.Proof.Routing
public import proofs.«01_k».proof.Proof.Fused

@[expose] public section

noncomputable section

namespace Cert.Rows

open Idealize.ShloMosaic

/-- The number of lanes the variance divides by is the number of lanes. -/
theorem count_eq : lanes - FloatOps.sitofp (F := Ideal) .f32 0#32 = lanes := by
  have h : FloatOps.sitofp (F := Ideal) .f32 0#32 = (0 : EReal) := by
    simp [FloatOps.sitofp]
  rw [h, sub_zero]

/-- On a finite row, with scale one and shift zero, the two normalised rows agree. -/
theorem norm_eq (f : Fin 128 → EReal) (hf : ∀ k, ∃ v : ℝ, f k = v) (n other : EReal) (hn : n = lanes)
    (lw lb : Fin 128 → EReal) (hw : ∀ k, lw k = 1) (hb : ∀ k, lb k = 0) :
    normR f n other lw lb = normK f := by
  choose v hv using hf
  obtain rfl : f = fun k => (v k : EReal) := funext hv
  obtain ⟨e, he, hE⟩ := eps_pos
  have hm : mean (fun k => (v k : EReal)) = (((∑ k, v k) / 128 : ℝ) : EReal) := by
    rw [mean, sum_coe, lanes_eq, div_real _ _ (by norm_num)]
  have hpos : (0 : EReal) < lanes := by rw [lanes_eq]; exact_mod_cast (by norm_num : (0 : ℝ) < 128)
  funext k
  rw [normR, normK, hw, hb, mul_one, add_zero, hn, if_pos hpos, hm]
  simp only [← EReal.coe_sub, ← EReal.coe_mul, sum_coe]
  rw [lanes_eq, div_real _ _ (by norm_num), hE, ← EReal.coe_add]
  set μ := (∑ k, v k) / 128
  have hv0 : 0 < (∑ p, (v p - μ) * (v p - μ)) / 128 + e := by
    have : 0 ≤ ∑ p, (v p - μ) * (v p - μ) := Finset.sum_nonneg fun p _ => mul_self_nonneg _
    positivity
  rw [Ideal.sqrt_coe, Ideal.rsqrt_coe, if_neg hv0.not_gt, if_neg hv0.not_gt, if_neg hv0.ne',
    Ideal.div_coe (Real.sqrt_pos.mpr hv0).ne', one_div]

/-- With the biases zero the two layers agree. -/
theorem ffn_eq (v : Fin 128 → EReal) (F1 : Fin 512 → Fin 128 → EReal) (fb1 : Fin 512 → EReal)
    (F2 : Fin 128 → Fin 512 → EReal) (fb2 : Fin 128 → EReal) (h1 : ∀ q, fb1 q = 0) (h2 : ∀ o, fb2 o = 0) (o : Fin 128) :
    ffnR (hiddenR v F1 fb1) F2 fb2 o = ffnK v F1 F2 o := by
  simp only [ffnR, ffnK, hiddenR, gelu_eq, h1, h2, add_zero]

/-- One row: with the two embeddings and the two projections finite, the biases zero and the normalisation's scale
    one, the reference's choice is the kernel's output. -/
theorem out_eq (x y : Fin 128 → EReal) (g : Fin 3 → EReal) (W1 : Fin 128 → Fin 256 → EReal) (b1 : Fin 128 → EReal)
    (W2 : Fin 3 → Fin 128 → EReal) (b2 : Fin 3 → EReal) (G : Fin 128 → Fin 256 → EReal) (gb : Fin 128 → EReal)
    (I : Fin 384 → Fin 128 → EReal) (ib : Fin 384 → EReal) (O : Fin 128 → Fin 128 → EReal) (ob lw lb : Fin 128 → EReal)
    (F1 : Fin 512 → Fin 128 → EReal) (fb1 : Fin 512 → EReal) (F2 : Fin 128 → Fin 512 → EReal) (fb2 : Fin 128 → EReal)
    (n other : EReal) (hn : n = lanes)
    (hx : ∀ k, ∃ v : ℝ, x k = v) (hy : ∀ k, ∃ v : ℝ, y k = v) (hI : ∀ k c, ∃ v : ℝ, I k c = v) (hO : ∀ o e, ∃ v : ℝ, O o e = v)
    (hb1 : ∀ q, b1 q = 0) (hb2 : ∀ q, b2 q = 0) (hgb : ∀ q, gb q = 0) (hib : ∀ q, ib q = 0) (hob : ∀ q, ob q = 0)
    (hlw : ∀ q, lw q = 1) (hlb : ∀ q, lb q = 0) (hfb1 : ∀ q, fb1 q = 0) (hfb2 : ∀ q, fb2 q = 0) (o : Fin 128) :
    (if routeR (scoreR x y W1 b1 W2 b2 g) = 0#32 then x o else if routeR (scoreR x y W1 b1 W2 b2 g) = 1#32 then y o
      else ffnR (hiddenR (normR (fusedR x y G gb I ib O ob) n other lw lb) F1 fb1) F2 fb2 o)
      = outK x y g W1 W2 G I O F1 F2 o := by
  choose xr hxr using hx
  choose yr hyr using hy
  choose Ir hIr using hI
  choose Or hOr using hO
  obtain rfl : x = fun k => (xr k : EReal) := funext hxr
  obtain rfl : y = fun k => (yr k : EReal) := funext hyr
  obtain rfl : I = fun k c => (Ir k c : EReal) := funext fun k => funext (hIr k)
  obtain rfl : O = fun o e => (Or o e : EReal) := funext fun k => funext (hOr k)
  choose f hfK hfR using fused_coe xr yr Ir Or G gb ib ob hgb hib hob
  have hfe := (funext hfR).trans (funext hfK).symm
  rw [score_eq _ _ _ _ _ _ _ hb1 hb2, choose_eq, ffn_eq _ _ _ _ _ hfb1 hfb2,
    norm_eq _ (fun k => ⟨f k, hfR k⟩) n other hn lw lb hlw hlb, hfe]
  rfl

end Cert.Rows

end
-- ==== Proof.SetUp.lean ====
/-
  What the precondition says of the arguments: four arrays are finite, eight are zero, one is one.
-/
module

public import proofs.«01_k».proof.Defs
public import proofs.«01_k».proof.Proof.Rows

@[expose] public section

noncomputable section

namespace Cert.SetUp

open Idealize.ShloMosaic

/-- A value whose magnitude is below infinity is a real. -/
theorem finite_of (x : EReal) (h : BitVec.ofBool (decide (FloatOps.absf (F := Ideal) (φ := .f32) x < Ideal.ofBits .f32 2139095040#32)) = 1#1) :
    ∃ v : ℝ, x = v := by
  have ht : Ideal.ofBits .f32 2139095040#32 = (⊤ : EReal) := by simp [Ideal.ofBits, Ideal.ieee]
  have ha : FloatOps.absf (F := Ideal) (φ := .f32) x = max x (-x) := rfl
  rw [ht, ha] at h
  induction x with
  | bot => simp at h
  | top => simp at h
  | coe r => exact ⟨r, rfl⟩

/-- A comparison that came out one holds. -/
theorem holds_of (p : Prop) [Decidable p] (h : BitVec.ofBool (decide p) = 1#1) : p := by
  by_contra hp
  simp [hp] at h

section Arrays

variable [Cert.Pre_as_set_up.Facts]

open Cert.Pre_as_set_up

variable {a0 a1 : FVec Ideal S16384x128 .f32} {a2 : FVec Ideal S128x256 .f32} {a3 : FVec Ideal S128 .f32}
    {a4 : FVec Ideal S3x128 .f32} {a5 : FVec Ideal S3 .f32} {a6 : FVec Ideal S128x256 .f32} {a7 : FVec Ideal S128 .f32}
    {a8 : FVec Ideal S384x128 .f32} {a9 : FVec Ideal S384 .f32} {a10 : FVec Ideal S128x128 .f32} {a11 a12 a13 : FVec Ideal S128 .f32}
    {a14 : FVec Ideal S512x128 .f32} {a15 : FVec Ideal S512 .f32} {a16 : FVec Ideal S128x512 .f32} {a17 : FVec Ideal S128 .f32}

/-- The first embedding is finite. -/
theorem a0_finite (h : (fn a0 a1 a2 a3 a4 a5 a6 a7 a8 a9 a10 a11 a12 a13 a14 a15 a16 a17).1 = fun _ => 1#1) (i : Fin 16384) (j : Fin 128) : ∃ v : ℝ, a0 (ix2 i j) = (v : EReal) := by
  have e := congrFun h (ix2 i j)
  pointwise [fn, fn_part1] at e
  exact finite_of _ e

/-- The second embedding is finite. -/
theorem a1_finite (h : (fn a0 a1 a2 a3 a4 a5 a6 a7 a8 a9 a10 a11 a12 a13 a14 a15 a16 a17).2.1 = fun _ => 1#1) (i : Fin 16384) (j : Fin 128) : ∃ v : ℝ, a1 (ix2 i j) = (v : EReal) := by
  have e := congrFun h (ix2 i j)
  pointwise [fn, fn_part1] at e
  exact finite_of _ e

/-- The joint projection is finite. -/
theorem a8_finite (h : (fn a0 a1 a2 a3 a4 a5 a6 a7 a8 a9 a10 a11 a12 a13 a14 a15 a16 a17).2.2.1 = fun _ => 1#1) (i : Fin 384) (j : Fin 128) : ∃ v : ℝ, a8 (ix2 i j) = (v : EReal) := by
  have e := congrFun h (ix2 i j)
  pointwise [fn, fn_part1] at e
  exact finite_of _ e

/-- The output projection is finite. -/
theorem a10_finite (h : (fn a0 a1 a2 a3 a4 a5 a6 a7 a8 a9 a10 a11 a12 a13 a14 a15 a16 a17).2.2.2.1 = fun _ => 1#1) (i : Fin 128) (j : Fin 128) : ∃ v : ℝ, a10 (ix2 i j) = (v : EReal) := by
  have e := congrFun h (ix2 i j)
  pointwise [fn, fn_part1] at e
  exact finite_of _ e

/-- The router's first bias is zero. -/
theorem a3_eq (h : (fn a0 a1 a2 a3 a4 a5 a6 a7 a8 a9 a10 a11 a12 a13 a14 a15 a16 a17).2.2.2.2.1 = fun _ => 1#1) (i : Fin 128) : a3 (ix1 i) = (0 : EReal) := by
  have e := congrFun h (ix1 i)
  pointwise [fn, fn_part1] at e
  exact holds_of _ e

/-- The router's second bias is zero. -/
theorem a5_eq (h : (fn a0 a1 a2 a3 a4 a5 a6 a7 a8 a9 a10 a11 a12 a13 a14 a15 a16 a17).2.2.2.2.2.1 = fun _ => 1#1) (i : Fin 3) : a5 (ix1 i) = (0 : EReal) := by
  have e := congrFun h (ix1 i)
  pointwise [fn, fn_part1] at e
  exact holds_of _ e

/-- The gate's bias is zero. -/
theorem a7_eq (h : (fn a0 a1 a2 a3 a4 a5 a6 a7 a8 a9 a10 a11 a12 a13 a14 a15 a16 a17).2.2.2.2.2.2.1 = fun _ => 1#1) (i : Fin 128) : a7 (ix1 i) = (0 : EReal) := by
  have e := congrFun h (ix1 i)
  pointwise [fn, fn_part1] at e
  exact holds_of _ e

/-- The joint projection's bias is zero. -/
theorem a9_eq (h : (fn a0 a1 a2 a3 a4 a5 a6 a7 a8 a9 a10 a11 a12 a13 a14 a15 a16 a17).2.2.2.2.2.2.2.1 = fun _ => 1#1) (i : Fin 384) : a9 (ix1 i) = (0 : EReal) := by
  have e := congrFun h (ix1 i)
  pointwise [fn, fn_part1] at e
  exact holds_of _ e

/-- The output projection's bias is zero. -/
theorem a11_eq (h : (fn a0 a1 a2 a3 a4 a5 a6 a7 a8 a9 a10 a11 a12 a13 a14 a15 a16 a17).2.2.2.2.2.2.2.2.1 = fun _ => 1#1) (i : Fin 128) : a11 (ix1 i) = (0 : EReal) := by
  have e := congrFun h (ix1 i)
  pointwise [fn, fn_part1] at e
  exact holds_of _ e

/-- The normalisation's scale is one. -/
theorem a12_eq (h : (fn a0 a1 a2 a3 a4 a5 a6 a7 a8 a9 a10 a11 a12 a13 a14 a15 a16 a17).2.2.2.2.2.2.2.2.2.1 = fun _ => 1#1) (i : Fin 128) : a12 (ix1 i) = (1 : EReal) := by
  have e := congrFun h (ix1 i)
  pointwise [fn, fn_part1] at e
  exact holds_of _ e

/-- The normalisation's shift is zero. -/
theorem a13_eq (h : (fn a0 a1 a2 a3 a4 a5 a6 a7 a8 a9 a10 a11 a12 a13 a14 a15 a16 a17).2.2.2.2.2.2.2.2.2.2.1 = fun _ => 1#1) (i : Fin 128) : a13 (ix1 i) = (0 : EReal) := by
  have e := congrFun h (ix1 i)
  pointwise [fn, fn_part1] at e
  exact holds_of _ e

/-- The first layer's bias is zero. -/
theorem a15_eq (h : (fn a0 a1 a2 a3 a4 a5 a6 a7 a8 a9 a10 a11 a12 a13 a14 a15 a16 a17).2.2.2.2.2.2.2.2.2.2.2.1 = fun _ => 1#1) (i : Fin 512) : a15 (ix1 i) = (0 : EReal) := by
  have e := congrFun h (ix1 i)
  pointwise [fn, fn_part1] at e
  exact holds_of _ e

/-- The second layer's bias is zero. -/
theorem a17_eq (h : (fn a0 a1 a2 a3 a4 a5 a6 a7 a8 a9 a10 a11 a12 a13 a14 a15 a16 a17).2.2.2.2.2.2.2.2.2.2.2.2 = fun _ => 1#1) (i : Fin 128) : a17 (ix1 i) = (0 : EReal) := by
  have e := congrFun h (ix1 i)
  pointwise [fn, fn_part1] at e
  exact holds_of _ e

end Arrays

end Cert.SetUp

end
-- ==== Proof.Values.lean ====
/-
  The value claim: under the precondition, the reference's two results are the kernel's.
-/
module

public import proofs.«01_k».proof.Proof.KernelValue
public import proofs.«01_k».proof.Proof.RefRows
public import proofs.«01_k».proof.Proof.Norm
public import proofs.«01_k».proof.Proof.SetUp
public import proofs.«01_k».proof.Proof.Gen.Pre_as_set_up

@[expose] public section

set_option maxHeartbeats 4000000

noncomputable section

namespace Cert.Values

open Idealize.ShloMosaic Idealize.SL.Sem Cert.Rows

section Row

open Cert.ReferenceIdeal Cert.RefRows

/-- Under the precondition, a row of the reference's result is the kernel's row function of the arguments' rows. -/
theorem row_eq (V0 : Valuation τ sig (Elt Ideal)) (a0 : FVec Ideal S16384x128 .f32) (e0 : V0 (Proc.tc.devRef main_arg0) = a0)
    (a1 : FVec Ideal S16384x128 .f32) (e1 : V0 (Proc.tc.devRef main_arg1) = a1)
    (a2 : FVec Ideal S128x256 .f32) (e2 : V0 (Proc.tc.devRef main_arg2) = a2)
    (a3 : FVec Ideal S128 .f32) (e3 : V0 (Proc.tc.devRef main_arg3) = a3)
    (a4 : FVec Ideal S3x128 .f32) (e4 : V0 (Proc.tc.devRef main_arg4) = a4)
    (a5 : FVec Ideal S3 .f32) (e5 : V0 (Proc.tc.devRef main_arg5) = a5)
    (a6 : FVec Ideal S128x256 .f32) (e6 : V0 (Proc.tc.devRef main_arg6) = a6)
    (a7 : FVec Ideal S128 .f32) (e7 : V0 (Proc.tc.devRef main_arg7) = a7)
    (a8 : FVec Ideal S384x128 .f32) (e8 : V0 (Proc.tc.devRef main_arg8) = a8)
    (a9 : FVec Ideal S384 .f32) (e9 : V0 (Proc.tc.devRef main_arg9) = a9)
    (a10 : FVec Ideal S128x128 .f32) (e10 : V0 (Proc.tc.devRef main_arg10) = a10)
    (a11 : FVec Ideal S128 .f32) (e11 : V0 (Proc.tc.devRef main_arg11) = a11)
    (a12 : FVec Ideal S128 .f32) (e12 : V0 (Proc.tc.devRef main_arg12) = a12)
    (a13 : FVec Ideal S128 .f32) (e13 : V0 (Proc.tc.devRef main_arg13) = a13)
    (a14 : FVec Ideal S512x128 .f32) (e14 : V0 (Proc.tc.devRef main_arg14) = a14)
    (a15 : FVec Ideal S512 .f32) (e15 : V0 (Proc.tc.devRef main_arg15) = a15)
    (a16 : FVec Ideal S128x512 .f32) (e16 : V0 (Proc.tc.devRef main_arg16) = a16)
    (a17 : FVec Ideal S128 .f32) (e17 : V0 (Proc.tc.devRef main_arg17) = a17)
    (hp : (Cert.Pre_as_set_up.fn a0 a1 a2 a3 a4 a5 a6 a7 a8 a9 a10 a11 a12 a13 a14 a15 a16 a17).1 = (fun _ => 1#1)
      ∧ (Cert.Pre_as_set_up.fn a0 a1 a2 a3 a4 a5 a6 a7 a8 a9 a10 a11 a12 a13 a14 a15 a16 a17).2.1 = (fun _ => 1#1)
      ∧ (Cert.Pre_as_set_up.fn a0 a1 a2 a3 a4 a5 a6 a7 a8 a9 a10 a11 a12 a13 a14 a15 a16 a17).2.2.1 = (fun _ => 1#1)
      ∧ (Cert.Pre_as_set_up.fn a0 a1 a2 a3 a4 a5 a6 a7 a8 a9 a10 a11 a12 a13 a14 a15 a16 a17).2.2.2.1 = (fun _ => 1#1)
      ∧ (Cert.Pre_as_set_up.fn a0 a1 a2 a3 a4 a5 a6 a7 a8 a9 a10 a11 a12 a13 a14 a15 a16 a17).2.2.2.2.1 = (fun _ => 1#1)
      ∧ (Cert.Pre_as_set_up.fn a0 a1 a2 a3 a4 a5 a6 a7 a8 a9 a10 a11 a12 a13 a14 a15 a16 a17).2.2.2.2.2.1 = (fun _ => 1#1)
      ∧ (Cert.Pre_as_set_up.fn a0 a1 a2 a3 a4 a5 a6 a7 a8 a9 a10 a11 a12 a13 a14 a15 a16 a17).2.2.2.2.2.2.1 = (fun _ => 1#1)
      ∧ (Cert.Pre_as_set_up.fn a0 a1 a2 a3 a4 a5 a6 a7 a8 a9 a10 a11 a12 a13 a14 a15 a16 a17).2.2.2.2.2.2.2.1 = (fun _ => 1#1)
      ∧ (Cert.Pre_as_set_up.fn a0 a1 a2 a3 a4 a5 a6 a7 a8 a9 a10 a11 a12 a13 a14 a15 a16 a17).2.2.2.2.2.2.2.2.1 = (fun _ => 1#1)
      ∧ (Cert.Pre_as_set_up.fn a0 a1 a2 a3 a4 a5 a6 a7 a8 a9 a10 a11 a12 a13 a14 a15 a16 a17).2.2.2.2.2.2.2.2.2.1 = (fun _ => 1#1)
      ∧ (Cert.Pre_as_set_up.fn a0 a1 a2 a3 a4 a5 a6 a7 a8 a9 a10 a11 a12 a13 a14 a15 a16 a17).2.2.2.2.2.2.2.2.2.2.1 = (fun _ => 1#1)
      ∧ (Cert.Pre_as_set_up.fn a0 a1 a2 a3 a4 a5 a6 a7 a8 a9 a10 a11 a12 a13 a14 a15 a16 a17).2.2.2.2.2.2.2.2.2.2.2.1 = (fun _ => 1#1)
      ∧ (Cert.Pre_as_set_up.fn a0 a1 a2 a3 a4 a5 a6 a7 a8 a9 a10 a11 a12 a13 a14 a15 a16 a17).2.2.2.2.2.2.2.2.2.2.2.2 = (fun _ => 1#1))
    (r : Fin 16384) (o : Fin 128) :
    result V0 (ix2 r o) = outK (fun k => a0 (ix2 r k)) (fun k => a1 (ix2 r k)) (noise r) (fun q k => a2 (ix2 q k))
      (fun q k => a4 (ix2 q k)) (fun q k => a6 (ix2 q k)) (fun q k => a8 (ix2 q k)) (fun q k => a10 (ix2 q k))
      (fun q k => a14 (ix2 q k)) (fun q k => a16 (ix2 q k)) o := by
  subst e0 e1 e2 e3 e4 e5 e6 e7 e8 e9 e10 e11 e12 e13 e14 e15 e16 e17
  obtain ⟨p0, p1, p8, p10, p3, p5, p7, p9, p11, p12, p13, p15, p17⟩ := hp
  rw [result_at]
  exact out_eq (X V0 r) (Y V0 r) (noise r) (W1 V0) (b1 V0) (W2 V0) (b2 V0) (G V0) (gb V0) (PI V0) (ib V0) (O V0) (ob V0)
    (lw V0) (lb V0) (F1 V0) (fb1 V0) (F2 V0) (fb2 V0) (count V0) other ((c8_at V0).trans count_eq)
    (fun k => SetUp.a0_finite p0 r k) (fun k => SetUp.a1_finite p1 r k) (fun q k => SetUp.a8_finite p8 q k)
    (fun q k => SetUp.a10_finite p10 q k) (fun q => SetUp.a3_eq p3 q) (fun q => SetUp.a5_eq p5 q) (fun q => SetUp.a7_eq p7 q)
    (fun q => SetUp.a9_eq p9 q) (fun q => SetUp.a11_eq p11 q) (fun q => SetUp.a12_eq p12 q) (fun q => SetUp.a13_eq p13 q)
    (fun q => SetUp.a15_eq p15 q) (fun q => SetUp.a17_eq p17 q) o

end Row

/-- The reference's result array, from a memory that agrees with the kernel's on the arguments, is the kernel's. -/
theorem result_eq (m : (ℓ : Loc Cert.KernelIdeal.nD Cert.KernelIdeal.τ Cert.KernelIdeal.sig) → Buf (Elt Ideal) ℓ)
    (c : Dev Cert.KernelIdeal.nD) (V0 : Valuation Cert.ReferenceIdeal.τ Cert.ReferenceIdeal.sig (Elt Ideal))
    (hpre : Cert.Pre_KernelIdeal_as_set_up m)
    (e0 : V0 (Proc.tc.devRef Cert.ReferenceIdeal.main_arg0) = m ((c.tc : Thread Cert.KernelIdeal.nD Cert.KernelIdeal.τ).loc Cert.KernelIdeal.main_arg0))
    (e1 : V0 (Proc.tc.devRef Cert.ReferenceIdeal.main_arg1) = m ((c.tc : Thread Cert.KernelIdeal.nD Cert.KernelIdeal.τ).loc Cert.KernelIdeal.main_arg1))
    (e2 : V0 (Proc.tc.devRef Cert.ReferenceIdeal.main_arg2) = m ((c.tc : Thread Cert.KernelIdeal.nD Cert.KernelIdeal.τ).loc Cert.KernelIdeal.main_arg2))
    (e3 : V0 (Proc.tc.devRef Cert.ReferenceIdeal.main_arg3) = m ((c.tc : Thread Cert.KernelIdeal.nD Cert.KernelIdeal.τ).loc Cert.KernelIdeal.main_arg3))
    (e4 : V0 (Proc.tc.devRef Cert.ReferenceIdeal.main_arg4) = m ((c.tc : Thread Cert.KernelIdeal.nD Cert.KernelIdeal.τ).loc Cert.KernelIdeal.main_arg4))
    (e5 : V0 (Proc.tc.devRef Cert.ReferenceIdeal.main_arg5) = m ((c.tc : Thread Cert.KernelIdeal.nD Cert.KernelIdeal.τ).loc Cert.KernelIdeal.main_arg5))
    (e6 : V0 (Proc.tc.devRef Cert.ReferenceIdeal.main_arg6) = m ((c.tc : Thread Cert.KernelIdeal.nD Cert.KernelIdeal.τ).loc Cert.KernelIdeal.main_arg6))
    (e7 : V0 (Proc.tc.devRef Cert.ReferenceIdeal.main_arg7) = m ((c.tc : Thread Cert.KernelIdeal.nD Cert.KernelIdeal.τ).loc Cert.KernelIdeal.main_arg7))
    (e8 : V0 (Proc.tc.devRef Cert.ReferenceIdeal.main_arg8) = m ((c.tc : Thread Cert.KernelIdeal.nD Cert.KernelIdeal.τ).loc Cert.KernelIdeal.main_arg8))
    (e9 : V0 (Proc.tc.devRef Cert.ReferenceIdeal.main_arg9) = m ((c.tc : Thread Cert.KernelIdeal.nD Cert.KernelIdeal.τ).loc Cert.KernelIdeal.main_arg9))
    (e10 : V0 (Proc.tc.devRef Cert.ReferenceIdeal.main_arg10) = m ((c.tc : Thread Cert.KernelIdeal.nD Cert.KernelIdeal.τ).loc Cert.KernelIdeal.main_arg10))
    (e11 : V0 (Proc.tc.devRef Cert.ReferenceIdeal.main_arg11) = m ((c.tc : Thread Cert.KernelIdeal.nD Cert.KernelIdeal.τ).loc Cert.KernelIdeal.main_arg11))
    (e12 : V0 (Proc.tc.devRef Cert.ReferenceIdeal.main_arg12) = m ((c.tc : Thread Cert.KernelIdeal.nD Cert.KernelIdeal.τ).loc Cert.KernelIdeal.main_arg12))
    (e13 : V0 (Proc.tc.devRef Cert.ReferenceIdeal.main_arg13) = m ((c.tc : Thread Cert.KernelIdeal.nD Cert.KernelIdeal.τ).loc Cert.KernelIdeal.main_arg13))
    (e14 : V0 (Proc.tc.devRef Cert.ReferenceIdeal.main_arg14) = m ((c.tc : Thread Cert.KernelIdeal.nD Cert.KernelIdeal.τ).loc Cert.KernelIdeal.main_arg14))
    (e15 : V0 (Proc.tc.devRef Cert.ReferenceIdeal.main_arg15) = m ((c.tc : Thread Cert.KernelIdeal.nD Cert.KernelIdeal.τ).loc Cert.KernelIdeal.main_arg15))
    (e16 : V0 (Proc.tc.devRef Cert.ReferenceIdeal.main_arg16) = m ((c.tc : Thread Cert.KernelIdeal.nD Cert.KernelIdeal.τ).loc Cert.KernelIdeal.main_arg16))
    (e17 : V0 (Proc.tc.devRef Cert.ReferenceIdeal.main_arg17) = m ((c.tc : Thread Cert.KernelIdeal.nD Cert.KernelIdeal.τ).loc Cert.KernelIdeal.main_arg17)) :
    RefRows.result V0 = KernelValue.result m c := by
  funext i
  obtain ⟨r, o, rfl⟩ : ∃ (r : Fin 16384) (o : Fin 128), i = ix2 r o := ⟨i 0, i 1, funext fun a => by fin_cases a <;> rfl⟩
  have hn : RefRows.noise r = KernelValue.noise r := funext fun j => congrArg (Ideal.ofBits .f32) (Noise.noise_eq r j).symm
  refine (row_eq V0 _ e0 _ e1 _ e2 _ e3 _ e4 _ e5 _ e6 _ e7 _ e8 _ e9 _ e10 _ e11 _ e12 _ e13 _ e14 _ e15 _ e16 _ e17 (hpre c) r o).trans ?_
  rw [hn]
  unfold KernelValue.result
  rfl

/-- The value claim: both results of the kernel are the reference's, at every input the precondition admits. -/
theorem algebraic : Cert.algebraic_KernelIdeal_ReferenceIdeal_pre_as_set_up := by
  intro m g m' g' hpre hag
  refine ⟨KernelValue.result m, fun _ => constant (F := Ideal) Cert.KernelIdeal.S_ .f32 0x00000000#32,
    KernelValue.run m g, (θ_run _ _ _).mono (fun _ h c => ?_) (Cert.ReferenceIdeal.Value.run (F := Ideal) m' g')⟩
  obtain ⟨hv, hc, hrest⟩ := h c
  refine ⟨hv.trans ?_, hc, hrest⟩
  obtain ⟨e0, e1, e2, e3, e4, e5, e6, e7, e8, e9, e10, e11, e12, e13, e14, e15, e16, e17⟩ := hag c
  exact result_eq m c (StableHlo.launchContents m' c) hpre e0 e1 e2 e3 e4 e5 e6 e7 e8 e9 e10 e11 e12 e13 e14 e15 e16 e17

end Cert.Values

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_as_set_up
public import proofs.«01_k».proof.Proof.Values
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every run of the reference ends with its arguments unchanged and its counters zero. -/
theorem reference_frame : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- All the claims. -/
theorem claim : Cert.Claim := ⟨Cert.Kernel.Gen.facts, Cert.KernelIdeal.Gen.facts, Cert.ReferenceIdeal.Gen.facts,
  Cert.Pre_as_set_up.Gen.facts, fun m ρ _ => Cert.Kernel.Gen.frame m ρ, fun m ρ _ => Cert.KernelIdeal.Gen.frame m ρ,
  fun m ρ _ => Cert.KernelIdeal.Gen.frame m ρ, reference_frame, fun m ρ _ => reference_frame m ρ trivial, trivial,
  Cert.Values.algebraic⟩

end Cert.Proof

end
